-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64x192 : Shape := ⟨3, ![1024, 64, 192]⟩
abbrev S64x1x256 : Shape := ⟨3, ![64, 1, 256]⟩
abbrev S64x1024 : Shape := ⟨2, ![64, 1024]⟩
abbrev S64x192x1024 : Shape := ⟨3, ![64, 192, 1024]⟩
abbrev S64x192x256 : Shape := ⟨3, ![64, 192, 256]⟩
abbrev S16x192x1024 : Shape := ⟨3, ![16, 192, 1024]⟩
abbrev S16x1x256 : Shape := ⟨3, ![16, 1, 256]⟩
abbrev S16x192x256 : Shape := ⟨3, ![16, 192, 256]⟩
abbrev S1024x256 : Shape := ⟨2, ![1024, 256]⟩
abbrev S1x192x1024 : Shape := ⟨3, ![1, 192, 1024]⟩
abbrev S192x1024 : Shape := ⟨2, ![192, 1024]⟩
abbrev S1x1x256 : Shape := ⟨3, ![1, 1, 256]⟩
abbrev S256 : Shape := ⟨1, ![256]⟩
abbrev S1x256 : Shape := ⟨2, ![1, 256]⟩
abbrev S192x256 : Shape := ⟨2, ![192, 256]⟩
abbrev S1x192x256 : Shape := ⟨3, ![1, 192, 256]⟩
abbrev S256x64x192 : Shape := ⟨3, ![256, 64, 192]⟩
abbrev S1024x64 : Shape := ⟨2, ![1024, 64]⟩

abbrev nBuf : Space → Nat
  | .hbm => 11
  | .vmem => 10
  | .smem => 0
  | _ => 0

abbrev bufTy : (tb : Table) → Fin (tcTables nBuf tb) → BufTy
  | .hbm, ⟨0, _⟩ => ⟨S1024x64x192, .f32⟩
  | .hbm, ⟨1, _⟩ => ⟨S64x1x256, .i32⟩
  | .hbm, ⟨2, _⟩ => ⟨S64x1024, .i32⟩
  | .hbm, ⟨3, _⟩ => ⟨S64x1024, .i32⟩
  | .hbm, ⟨4, _⟩ => ⟨S64x192x1024, .f32⟩
  | .hbm, ⟨5, _⟩ => ⟨S64x192x256, .f32⟩
  | .hbm, ⟨6, _⟩ => ⟨S64x1024, .i32⟩
  | .hbm, ⟨7, _⟩ => ⟨S64x1024, .i32⟩
  | .hbm, ⟨8, _⟩ => ⟨S256x64x192, .f32⟩
  | .hbm, ⟨9, _⟩ => ⟨S1024x64, .i32⟩
  | .hbm, ⟨10, _⟩ => ⟨S1024x64, .i32⟩
  | .local _ .vmem, ⟨0, _⟩ => ⟨S16x192x1024, .f32⟩
  | .local _ .vmem, ⟨1, _⟩ => ⟨S16x192x1024, .f32⟩
  | .local _ .vmem, ⟨2, _⟩ => ⟨S16x1x256, .i32⟩
  | .local _ .vmem, ⟨3, _⟩ => ⟨S16x1x256, .i32⟩
  | .local _ .vmem, ⟨4, _⟩ => ⟨S64x1024, .i32⟩
  | .local _ .vmem, ⟨5, _⟩ => ⟨S64x1024, .i32⟩
  | .local _ .vmem, ⟨6, _⟩ => ⟨S16x192x256, .f32⟩
  | .local _ .vmem, ⟨7, _⟩ => ⟨S16x192x256, .f32⟩
  | .local _ .vmem, ⟨8, _⟩ => ⟨S64x1024, .i32⟩
  | .local _ .vmem, ⟨9, _⟩ => ⟨S64x1024, .i32⟩
  | _, _ => ⟨S1024x64x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v241 : BitVec 1 := Scalar.cmpi .eq arg0 c0_i32
  let v242 : BitVec 32 := Scalar.extui v241
  let c0_i32_143 : BitVec 32 := 0#32
  let v243 : BitVec 1 := Scalar.cmpi .ne v242 c0_i32_143
  v243

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1024x64x192 : Shape := ⟨3, ![1024, 64, 192]⟩
abbrev S_ : Shape := ⟨0, ![]⟩
abbrev S1 : Shape := ⟨1, ![1]⟩
abbrev S2 : Shape := ⟨1, ![2]⟩
abbrev S64 : Shape := ⟨1, ![64]⟩
abbrev S64x1 : Shape := ⟨2, ![64, 1]⟩
abbrev S64x2 : Shape := ⟨2, ![64, 2]⟩
abbrev S1024 : Shape := ⟨1, ![1024]⟩
abbrev S1x2 : Shape := ⟨2, ![1, 2]⟩
abbrev S64x2x1 : Shape := ⟨3, ![64, 2, 1]⟩
abbrev S64x2x2 : Shape := ⟨3, ![64, 2, 2]⟩
abbrev S64x1x2 : Shape := ⟨3, ![64, 1, 2]⟩
abbrev S1x1024 : Shape := ⟨2, ![1, 1024]⟩
abbrev S64x1024 : Shape := ⟨2, ![64, 1024]⟩
abbrev S1024x64 : Shape := ⟨2, ![1024, 64]⟩
abbrev S1024x64x1 : Shape := ⟨3, ![1024, 64, 1]⟩
abbrev S1x1x1 : Shape := ⟨3, ![1, 1, 1]⟩
abbrev S256x64x192 : Shape := ⟨3, ![256, 64, 192]⟩

abbrev nBuf : Space → Nat
  | .hbm => 773
  | .vmem => 0
  | .smem => 0
  | _ => 0

abbrev hbmTy0_0 (i : Nat) : BufTy := match i % 128 with
  | 0 => ⟨S1024x64x192, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S64, .i64⟩
  | 16 => ⟨S_, .i64⟩
  | 17 => ⟨S64, .i64⟩
  | 18 => ⟨S64, .i64⟩
  | 19 => ⟨S_, .i64⟩
  | 20 => ⟨S64, .i64⟩
  | 21 => ⟨S64, .i64⟩
  | 22 => ⟨S64, .i32⟩
  | 23 => ⟨S64, .i32⟩
  | 24 => ⟨S_, .i32⟩
  | 25 => ⟨S_, .i32⟩
  | 26 => ⟨S_, .i32⟩
  | 27 => ⟨S64, .i32⟩
  | 28 => ⟨S64, .i32⟩
  | 29 => ⟨S64, .i32⟩
  | 30 => ⟨S64, .i32⟩
  | 31 => ⟨S64, .i32⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S64, .i32⟩
  | 39 => ⟨S64, .i32⟩
  | 40 => ⟨S64, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S64, .i32⟩
  | 48 => ⟨S64, .i32⟩
  | 49 => ⟨S64, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S64, .i32⟩
  | 57 => ⟨S64, .i32⟩
  | 58 => ⟨S64, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S64, .i32⟩
  | 66 => ⟨S64, .i32⟩
  | 67 => ⟨S64, .i32⟩
  | 68 => ⟨S64, .i32⟩
  | 69 => ⟨S64, .i32⟩
  | 70 => ⟨S64, .i32⟩
  | 71 => ⟨S_, .i32⟩
  | 72 => ⟨S64, .i32⟩
  | 73 => ⟨S64, .i32⟩
  | 74 => ⟨S64, .i32⟩
  | 75 => ⟨S_, .i32⟩
  | 76 => ⟨S64, .i32⟩
  | 77 => ⟨S64, .i32⟩
  | 78 => ⟨S_, .i32⟩
  | 79 => ⟨S64, .i32⟩
  | 80 => ⟨S64, .i32⟩
  | 81 => ⟨S64, .i32⟩
  | 82 => ⟨S64, .i32⟩
  | 83 => ⟨S64, .i32⟩
  | 84 => ⟨S_, .i32⟩
  | 85 => ⟨S64, .i32⟩
  | 86 => ⟨S64, .i32⟩
  | 87 => ⟨S_, .i32⟩
  | 88 => ⟨S64, .i32⟩
  | 89 => ⟨S64, .i32⟩
  | 90 => ⟨S64, .i32⟩
  | 91 => ⟨S64, .i32⟩
  | 92 => ⟨S64, .i32⟩
  | 93 => ⟨S_, .i32⟩
  | 94 => ⟨S64, .i32⟩
  | 95 => ⟨S64, .i32⟩
  | 96 => ⟨S_, .i32⟩
  | 97 => ⟨S64, .i32⟩
  | 98 => ⟨S64, .i32⟩
  | 99 => ⟨S64, .i32⟩
  | 100 => ⟨S64, .i32⟩
  | 101 => ⟨S64, .i32⟩
  | 102 => ⟨S_, .i32⟩
  | 103 => ⟨S64, .i32⟩
  | 104 => ⟨S64, .i32⟩
  | 105 => ⟨S_, .i32⟩
  | 106 => ⟨S64, .i32⟩
  | 107 => ⟨S64, .i32⟩
  | 108 => ⟨S64, .i32⟩
  | 109 => ⟨S64, .i32⟩
  | 110 => ⟨S64, .i32⟩
  | 111 => ⟨S64, .i32⟩
  | 112 => ⟨S64, .i32⟩
  | 113 => ⟨S64, .i32⟩
  | 114 => ⟨S_, .i32⟩
  | 115 => ⟨S64, .i32⟩
  | 116 => ⟨S64, .i32⟩
  | 117 => ⟨S64, .i32⟩
  | 118 => ⟨S_, .i32⟩
  | 119 => ⟨S64, .i32⟩
  | 120 => ⟨S64, .i32⟩
  | 121 => ⟨S_, .i32⟩
  | 122 => ⟨S64, .i32⟩
  | 123 => ⟨S64, .i32⟩
  | 124 => ⟨S64, .i32⟩
  | 125 => ⟨S64, .i32⟩
  | 126 => ⟨S64, .i32⟩
  | 127 => ⟨S_, .i32⟩
  | _ => ⟨S1024x64x192, .f32⟩

abbrev hbmTy0_1 (i : Nat) : BufTy := match i % 128 with
  | 0 => ⟨S64, .i32⟩
  | 1 => ⟨S64, .i32⟩
  | 2 => ⟨S_, .i32⟩
  | 3 => ⟨S64, .i32⟩
  | 4 => ⟨S64, .i32⟩
  | 5 => ⟨S64, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S64, .i32⟩
  | 13 => ⟨S64, .i32⟩
  | 14 => ⟨S64, .i32⟩
  | 15 => ⟨S64, .i32⟩
  | 16 => ⟨S64, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64, .i32⟩
  | 24 => ⟨S64, .i32⟩
  | 25 => ⟨S64, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S64, .i32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S64, .i32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S64, .i32⟩
  | 58 => ⟨S64, .i32⟩
  | 59 => ⟨S64, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S64, .i32⟩
  | 67 => ⟨S64, .i32⟩
  | 68 => ⟨S64, .i32⟩
  | 69 => ⟨S64, .i32⟩
  | 70 => ⟨S64, .i32⟩
  | 71 => ⟨S64, .i32⟩
  | 72 => ⟨S_, .i32⟩
  | 73 => ⟨S64, .i32⟩
  | 74 => ⟨S64, .i32⟩
  | 75 => ⟨S64, .i32⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S64, .i32⟩
  | 83 => ⟨S64, .i32⟩
  | 84 => ⟨S64, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S64, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S64, .i32⟩
  | 110 => ⟨S64, .i32⟩
  | 111 => ⟨S64, .i32⟩
  | 112 => ⟨S64, .i32⟩
  | 113 => ⟨S64, .i32⟩
  | 114 => ⟨S64, .i32⟩
  | 115 => ⟨S_, .i32⟩
  | 116 => ⟨S64, .i32⟩
  | 117 => ⟨S64, .i32⟩
  | 118 => ⟨S64x1, .i32⟩
  | 119 => ⟨S64x1, .i32⟩
  | 120 => ⟨S64x2, .i32⟩
  | 121 => ⟨S1024, .i32⟩
  | 122 => ⟨S64x1, .i32⟩
  | 123 => ⟨S64, .i32⟩
  | 124 => ⟨S64x1, .i32⟩
  | 125 => ⟨S64, .i32⟩
  | 126 => ⟨S2, .i64⟩
  | 127 => ⟨S_, .i64⟩
  | _ => ⟨S1024x64x192, .f32⟩

abbrev hbmTy0_2 (i : Nat) : BufTy := match i % 128 with
  | 0 => ⟨S2, .i64⟩
  | 1 => ⟨S2, .i64⟩
  | 2 => ⟨S_, .i64⟩
  | 3 => ⟨S2, .i64⟩
  | 4 => ⟨S2, .i64⟩
  | 5 => ⟨S2, .i32⟩
  | 6 => ⟨S2, .i32⟩
  | 7 => ⟨S1x2, .i32⟩
  | 8 => ⟨S1x2, .i32⟩
  | 9 => ⟨S64x1, .i32⟩
  | 10 => ⟨S64x1, .i32⟩
  | 11 => ⟨S64x1, .i32⟩
  | 12 => ⟨S_, .i32⟩
  | 13 => ⟨S64x1, .i32⟩
  | 14 => ⟨S64x1, .i32⟩
  | 15 => ⟨S64x2, .i32⟩
  | 16 => ⟨S64x2, .i32⟩
  | 17 => ⟨S64x2, .i32⟩
  | 18 => ⟨S64x2, .i32⟩
  | 19 => ⟨S64x2, .i32⟩
  | 20 => ⟨S64x2, .i32⟩
  | 21 => ⟨S64x2, .i32⟩
  | 22 => ⟨S_, .i32⟩
  | 23 => ⟨S64x2, .i32⟩
  | 24 => ⟨S64x2, .i32⟩
  | 25 => ⟨S_, .i32⟩
  | 26 => ⟨S64x2, .i32⟩
  | 27 => ⟨S64x2, .i32⟩
  | 28 => ⟨S64x2, .i32⟩
  | 29 => ⟨S64x2, .i32⟩
  | 30 => ⟨S64x2, .i32⟩
  | 31 => ⟨S_, .i32⟩
  | 32 => ⟨S64x2, .i32⟩
  | 33 => ⟨S64x2, .i32⟩
  | 34 => ⟨S_, .i32⟩
  | 35 => ⟨S64x2, .i32⟩
  | 36 => ⟨S64x2, .i32⟩
  | 37 => ⟨S64x2, .i32⟩
  | 38 => ⟨S64x2, .i32⟩
  | 39 => ⟨S64x2, .i32⟩
  | 40 => ⟨S_, .i32⟩
  | 41 => ⟨S64x2, .i32⟩
  | 42 => ⟨S64x2, .i32⟩
  | 43 => ⟨S_, .i32⟩
  | 44 => ⟨S64x2, .i32⟩
  | 45 => ⟨S64x2, .i32⟩
  | 46 => ⟨S64x2, .i32⟩
  | 47 => ⟨S64x2, .i32⟩
  | 48 => ⟨S64x2, .i32⟩
  | 49 => ⟨S_, .i32⟩
  | 50 => ⟨S64x2, .i32⟩
  | 51 => ⟨S64x2, .i32⟩
  | 52 => ⟨S_, .i32⟩
  | 53 => ⟨S64x2, .i32⟩
  | 54 => ⟨S64x2, .i32⟩
  | 55 => ⟨S64x2, .i32⟩
  | 56 => ⟨S64x2, .i32⟩
  | 57 => ⟨S64x2, .i32⟩
  | 58 => ⟨S64x2, .i32⟩
  | 59 => ⟨S64x2, .i32⟩
  | 60 => ⟨S64x2, .i32⟩
  | 61 => ⟨S_, .i32⟩
  | 62 => ⟨S64x2, .i32⟩
  | 63 => ⟨S64x2, .i32⟩
  | 64 => ⟨S64x2, .i32⟩
  | 65 => ⟨S_, .i32⟩
  | 66 => ⟨S64x2, .i32⟩
  | 67 => ⟨S64x2, .i32⟩
  | 68 => ⟨S_, .i32⟩
  | 69 => ⟨S64x2, .i32⟩
  | 70 => ⟨S64x2, .i32⟩
  | 71 => ⟨S64x2, .i32⟩
  | 72 => ⟨S64x2, .i32⟩
  | 73 => ⟨S64x2, .i32⟩
  | 74 => ⟨S_, .i32⟩
  | 75 => ⟨S64x2, .i32⟩
  | 76 => ⟨S64x2, .i32⟩
  | 77 => ⟨S_, .i32⟩
  | 78 => ⟨S64x2, .i32⟩
  | 79 => ⟨S64x2, .i32⟩
  | 80 => ⟨S64x2, .i32⟩
  | 81 => ⟨S64x2, .i32⟩
  | 82 => ⟨S64x2, .i32⟩
  | 83 => ⟨S_, .i32⟩
  | 84 => ⟨S64x2, .i32⟩
  | 85 => ⟨S64x2, .i32⟩
  | 86 => ⟨S_, .i32⟩
  | 87 => ⟨S64x2, .i32⟩
  | 88 => ⟨S64x2, .i32⟩
  | 89 => ⟨S64x2, .i32⟩
  | 90 => ⟨S64x2, .i32⟩
  | 91 => ⟨S64x2, .i32⟩
  | 92 => ⟨S_, .i32⟩
  | 93 => ⟨S64x2, .i32⟩
  | 94 => ⟨S64x2, .i32⟩
  | 95 => ⟨S_, .i32⟩
  | 96 => ⟨S64x2, .i32⟩
  | 97 => ⟨S64x2, .i32⟩
  | 98 => ⟨S64x2, .i32⟩
  | 99 => ⟨S64x2, .i32⟩
  | 100 => ⟨S64x2, .i32⟩
  | 101 => ⟨S64x2, .i32⟩
  | 102 => ⟨S64x2, .i32⟩
  | 103 => ⟨S64x2, .i32⟩
  | 104 => ⟨S_, .i32⟩
  | 105 => ⟨S64x2, .i32⟩
  | 106 => ⟨S64x2, .i32⟩
  | 107 => ⟨S64x2, .i32⟩
  | 108 => ⟨S_, .i32⟩
  | 109 => ⟨S64x2, .i32⟩
  | 110 => ⟨S64x2, .i32⟩
  | 111 => ⟨S_, .i32⟩
  | 112 => ⟨S64x2, .i32⟩
  | 113 => ⟨S64x2, .i32⟩
  | 114 => ⟨S64x2, .i32⟩
  | 115 => ⟨S64x2, .i32⟩
  | 116 => ⟨S64x2, .i32⟩
  | 117 => ⟨S_, .i32⟩
  | 118 => ⟨S64x2, .i32⟩
  | 119 => ⟨S64x2, .i32⟩
  | 120 => ⟨S_, .i32⟩
  | 121 => ⟨S64x2, .i32⟩
  | 122 => ⟨S64x2, .i32⟩
  | 123 => ⟨S64x2, .i32⟩
  | 124 => ⟨S64x2, .i32⟩
  | 125 => ⟨S64x2, .i32⟩
  | 126 => ⟨S_, .i32⟩
  | 127 => ⟨S64x2, .i32⟩
  | _ => ⟨S1024x64x192, .f32⟩

abbrev hbmTy0_3 (i : Nat) : BufTy := match i % 128 with
  | 0 => ⟨S64x2, .i32⟩
  | 1 => ⟨S_, .i32⟩
  | 2 => ⟨S64x2, .i32⟩
  | 3 => ⟨S64x2, .i32⟩
  | 4 => ⟨S64x2, .i32⟩
  | 5 => ⟨S64x2, .i32⟩
  | 6 => ⟨S64x2, .i32⟩
  | 7 => ⟨S_, .i32⟩
  | 8 => ⟨S64x2, .i32⟩
  | 9 => ⟨S64x2, .i32⟩
  | 10 => ⟨S_, .i32⟩
  | 11 => ⟨S64x2, .i32⟩
  | 12 => ⟨S64x2, .i32⟩
  | 13 => ⟨S64x2, .i32⟩
  | 14 => ⟨S64x2, .i32⟩
  | 15 => ⟨S64x2, .i32⟩
  | 16 => ⟨S64x2, .i32⟩
  | 17 => ⟨S64x2, .i32⟩
  | 18 => ⟨S64x2, .i32⟩
  | 19 => ⟨S_, .i32⟩
  | 20 => ⟨S64x2, .i32⟩
  | 21 => ⟨S64x2, .i32⟩
  | 22 => ⟨S64x2, .i32⟩
  | 23 => ⟨S_, .i32⟩
  | 24 => ⟨S64x2, .i32⟩
  | 25 => ⟨S64x2, .i32⟩
  | 26 => ⟨S_, .i32⟩
  | 27 => ⟨S64x2, .i32⟩
  | 28 => ⟨S64x2, .i32⟩
  | 29 => ⟨S64x2, .i32⟩
  | 30 => ⟨S64x2, .i32⟩
  | 31 => ⟨S64x2, .i32⟩
  | 32 => ⟨S_, .i32⟩
  | 33 => ⟨S64x2, .i32⟩
  | 34 => ⟨S64x2, .i32⟩
  | 35 => ⟨S_, .i32⟩
  | 36 => ⟨S64x2, .i32⟩
  | 37 => ⟨S64x2, .i32⟩
  | 38 => ⟨S64x2, .i32⟩
  | 39 => ⟨S64x2, .i32⟩
  | 40 => ⟨S64x2, .i32⟩
  | 41 => ⟨S_, .i32⟩
  | 42 => ⟨S64x2, .i32⟩
  | 43 => ⟨S64x2, .i32⟩
  | 44 => ⟨S_, .i32⟩
  | 45 => ⟨S64x2, .i32⟩
  | 46 => ⟨S64x2, .i32⟩
  | 47 => ⟨S64x2, .i32⟩
  | 48 => ⟨S64x2, .i32⟩
  | 49 => ⟨S64x2, .i32⟩
  | 50 => ⟨S_, .i32⟩
  | 51 => ⟨S64x2, .i32⟩
  | 52 => ⟨S64x2, .i32⟩
  | 53 => ⟨S_, .i32⟩
  | 54 => ⟨S64x2, .i32⟩
  | 55 => ⟨S64x2, .i32⟩
  | 56 => ⟨S64x2, .i32⟩
  | 57 => ⟨S64x2, .i32⟩
  | 58 => ⟨S64x2, .i32⟩
  | 59 => ⟨S64x2, .i32⟩
  | 60 => ⟨S64x2, .i32⟩
  | 61 => ⟨S64x2, .i32⟩
  | 62 => ⟨S_, .i32⟩
  | 63 => ⟨S64x2, .i32⟩
  | 64 => ⟨S64x2, .i32⟩
  | 65 => ⟨S64x2, .i32⟩
  | 66 => ⟨S_, .i32⟩
  | 67 => ⟨S64x2, .i32⟩
  | 68 => ⟨S64x2, .i32⟩
  | 69 => ⟨S_, .i32⟩
  | 70 => ⟨S64x2, .i32⟩
  | 71 => ⟨S64x2, .i32⟩
  | 72 => ⟨S64x2, .i32⟩
  | 73 => ⟨S64x2, .i32⟩
  | 74 => ⟨S64x2, .i32⟩
  | 75 => ⟨S_, .i32⟩
  | 76 => ⟨S64x2, .i32⟩
  | 77 => ⟨S64x2, .i32⟩
  | 78 => ⟨S_, .i32⟩
  | 79 => ⟨S64x2, .i32⟩
  | 80 => ⟨S64x2, .i32⟩
  | 81 => ⟨S64x2, .i32⟩
  | 82 => ⟨S64x2, .i32⟩
  | 83 => ⟨S64x2, .i32⟩
  | 84 => ⟨S_, .i32⟩
  | 85 => ⟨S64x2, .i32⟩
  | 86 => ⟨S64x2, .i32⟩
  | 87 => ⟨S_, .i32⟩
  | 88 => ⟨S64x2, .i32⟩
  | 89 => ⟨S64x2, .i32⟩
  | 90 => ⟨S64x2, .i32⟩
  | 91 => ⟨S64x2, .i32⟩
  | 92 => ⟨S64x2, .i32⟩
  | 93 => ⟨S_, .i32⟩
  | 94 => ⟨S64x2, .i32⟩
  | 95 => ⟨S64x2, .i32⟩
  | 96 => ⟨S_, .i32⟩
  | 97 => ⟨S64x2, .i32⟩
  | 98 => ⟨S64x2, .i32⟩
  | 99 => ⟨S64x2, .i32⟩
  | 100 => ⟨S64x2, .i32⟩
  | 101 => ⟨S64x2, .i32⟩
  | 102 => ⟨S64x2, .i32⟩
  | 103 => ⟨S64x2, .i32⟩
  | 104 => ⟨S64x2, .i32⟩
  | 105 => ⟨S_, .i32⟩
  | 106 => ⟨S64x2, .i32⟩
  | 107 => ⟨S64x2, .i32⟩
  | 108 => ⟨S64x2x1, .i32⟩
  | 109 => ⟨S64x2x1, .i32⟩
  | 110 => ⟨S64x2x2, .i32⟩
  | 111 => ⟨S64x1x2, .i32⟩
  | 112 => ⟨S64x2, .i32⟩
  | 113 => ⟨S64x1x2, .i32⟩
  | 114 => ⟨S64x2, .i32⟩
  | 115 => ⟨S64x1, .i32⟩
  | 116 => ⟨S64, .i32⟩
  | 117 => ⟨S64x1, .i32⟩
  | 118 => ⟨S64, .i32⟩
  | 119 => ⟨S1024, .i64⟩
  | 120 => ⟨S_, .i64⟩
  | 121 => ⟨S1024, .i64⟩
  | 122 => ⟨S1024, .i64⟩
  | 123 => ⟨S_, .i64⟩
  | 124 => ⟨S1024, .i64⟩
  | 125 => ⟨S1024, .i64⟩
  | 126 => ⟨S1024, .i32⟩
  | 127 => ⟨S1024, .i32⟩
  | _ => ⟨S1024x64x192, .f32⟩

abbrev hbmTy0_4 (i : Nat) : BufTy := match i % 128 with
  | 0 => ⟨S1x1024, .i32⟩
  | 1 => ⟨S1x1024, .i32⟩
  | 2 => ⟨S64x1, .i32⟩
  | 3 => ⟨S64x1, .i32⟩
  | 4 => ⟨S64x1, .i32⟩
  | 5 => ⟨S_, .i32⟩
  | 6 => ⟨S64x1, .i32⟩
  | 7 => ⟨S64x1, .i32⟩
  | 8 => ⟨S64x1024, .i32⟩
  | 9 => ⟨S64x1024, .i32⟩
  | 10 => ⟨S64x1024, .i32⟩
  | 11 => ⟨S64x1024, .i32⟩
  | 12 => ⟨S64x1024, .i32⟩
  | 13 => ⟨S64x1024, .i32⟩
  | 14 => ⟨S64x1024, .i32⟩
  | 15 => ⟨S_, .i32⟩
  | 16 => ⟨S64x1024, .i32⟩
  | 17 => ⟨S64x1024, .i32⟩
  | 18 => ⟨S_, .i32⟩
  | 19 => ⟨S64x1024, .i32⟩
  | 20 => ⟨S64x1024, .i32⟩
  | 21 => ⟨S64x1024, .i32⟩
  | 22 => ⟨S64x1024, .i32⟩
  | 23 => ⟨S64x1024, .i32⟩
  | 24 => ⟨S_, .i32⟩
  | 25 => ⟨S64x1024, .i32⟩
  | 26 => ⟨S64x1024, .i32⟩
  | 27 => ⟨S_, .i32⟩
  | 28 => ⟨S64x1024, .i32⟩
  | 29 => ⟨S64x1024, .i32⟩
  | 30 => ⟨S64x1024, .i32⟩
  | 31 => ⟨S64x1024, .i32⟩
  | 32 => ⟨S64x1024, .i32⟩
  | 33 => ⟨S_, .i32⟩
  | 34 => ⟨S64x1024, .i32⟩
  | 35 => ⟨S64x1024, .i32⟩
  | 36 => ⟨S_, .i32⟩
  | 37 => ⟨S64x1024, .i32⟩
  | 38 => ⟨S64x1024, .i32⟩
  | 39 => ⟨S64x1024, .i32⟩
  | 40 => ⟨S64x1024, .i32⟩
  | 41 => ⟨S64x1024, .i32⟩
  | 42 => ⟨S_, .i32⟩
  | 43 => ⟨S64x1024, .i32⟩
  | 44 => ⟨S64x1024, .i32⟩
  | 45 => ⟨S_, .i32⟩
  | 46 => ⟨S64x1024, .i32⟩
  | 47 => ⟨S64x1024, .i32⟩
  | 48 => ⟨S64x1024, .i32⟩
  | 49 => ⟨S64x1024, .i32⟩
  | 50 => ⟨S64x1024, .i32⟩
  | 51 => ⟨S64x1024, .i32⟩
  | 52 => ⟨S64x1024, .i32⟩
  | 53 => ⟨S64x1024, .i32⟩
  | 54 => ⟨S_, .i32⟩
  | 55 => ⟨S64x1024, .i32⟩
  | 56 => ⟨S64x1024, .i32⟩
  | 57 => ⟨S64x1024, .i32⟩
  | 58 => ⟨S_, .i32⟩
  | 59 => ⟨S64x1024, .i32⟩
  | 60 => ⟨S64x1024, .i32⟩
  | 61 => ⟨S_, .i32⟩
  | 62 => ⟨S64x1024, .i32⟩
  | 63 => ⟨S64x1024, .i32⟩
  | 64 => ⟨S64x1024, .i32⟩
  | 65 => ⟨S64x1024, .i32⟩
  | 66 => ⟨S64x1024, .i32⟩
  | 67 => ⟨S_, .i32⟩
  | 68 => ⟨S64x1024, .i32⟩
  | 69 => ⟨S64x1024, .i32⟩
  | 70 => ⟨S_, .i32⟩
  | 71 => ⟨S64x1024, .i32⟩
  | 72 => ⟨S64x1024, .i32⟩
  | 73 => ⟨S64x1024, .i32⟩
  | 74 => ⟨S64x1024, .i32⟩
  | 75 => ⟨S64x1024, .i32⟩
  | 76 => ⟨S_, .i32⟩
  | 77 => ⟨S64x1024, .i32⟩
  | 78 => ⟨S64x1024, .i32⟩
  | 79 => ⟨S_, .i32⟩
  | 80 => ⟨S64x1024, .i32⟩
  | 81 => ⟨S64x1024, .i32⟩
  | 82 => ⟨S64x1024, .i32⟩
  | 83 => ⟨S64x1024, .i32⟩
  | 84 => ⟨S64x1024, .i32⟩
  | 85 => ⟨S_, .i32⟩
  | 86 => ⟨S64x1024, .i32⟩
  | 87 => ⟨S64x1024, .i32⟩
  | 88 => ⟨S_, .i32⟩
  | 89 => ⟨S64x1024, .i32⟩
  | 90 => ⟨S64x1024, .i32⟩
  | 91 => ⟨S64x1024, .i32⟩
  | 92 => ⟨S64x1024, .i32⟩
  | 93 => ⟨S64x1024, .i32⟩
  | 94 => ⟨S64x1024, .i32⟩
  | 95 => ⟨S64x1024, .i32⟩
  | 96 => ⟨S64x1024, .i32⟩
  | 97 => ⟨S_, .i32⟩
  | 98 => ⟨S64x1024, .i32⟩
  | 99 => ⟨S64x1024, .i32⟩
  | 100 => ⟨S64x1024, .i32⟩
  | 101 => ⟨S_, .i32⟩
  | 102 => ⟨S64x1024, .i32⟩
  | 103 => ⟨S64x1024, .i32⟩
  | 104 => ⟨S_, .i32⟩
  | 105 => ⟨S64x1024, .i32⟩
  | 106 => ⟨S64x1024, .i32⟩
  | 107 => ⟨S64x1024, .i32⟩
  | 108 => ⟨S64x1024, .i32⟩
  | 109 => ⟨S64x1024, .i32⟩
  | 110 => ⟨S_, .i32⟩
  | 111 => ⟨S64x1024, .i32⟩
  | 112 => ⟨S64x1024, .i32⟩
  | 113 => ⟨S_, .i32⟩
  | 114 => ⟨S64x1024, .i32⟩
  | 115 => ⟨S64x1024, .i32⟩
  | 116 => ⟨S64x1024, .i32⟩
  | 117 => ⟨S64x1024, .i32⟩
  | 118 => ⟨S64x1024, .i32⟩
  | 119 => ⟨S_, .i32⟩
  | 120 => ⟨S64x1024, .i32⟩
  | 121 => ⟨S64x1024, .i32⟩
  | 122 => ⟨S_, .i32⟩
  | 123 => ⟨S64x1024, .i32⟩
  | 124 => ⟨S64x1024, .i32⟩
  | 125 => ⟨S64x1024, .i32⟩
  | 126 => ⟨S64x1024, .i32⟩
  | 127 => ⟨S64x1024, .i32⟩
  | _ => ⟨S1024x64x192, .f32⟩

abbrev hbmTy0_5 (i : Nat) : BufTy := match i % 128 with
  | 0 => ⟨S_, .i32⟩
  | 1 => ⟨S64x1024, .i32⟩
  | 2 => ⟨S64x1024, .i32⟩
  | 3 => ⟨S_, .i32⟩
  | 4 => ⟨S64x1024, .i32⟩
  | 5 => ⟨S64x1024, .i32⟩
  | 6 => ⟨S64x1024, .i32⟩
  | 7 => ⟨S64x1024, .i32⟩
  | 8 => ⟨S64x1024, .i32⟩
  | 9 => ⟨S64x1024, .i32⟩
  | 10 => ⟨S64x1024, .i32⟩
  | 11 => ⟨S64x1024, .i32⟩
  | 12 => ⟨S_, .i32⟩
  | 13 => ⟨S64x1024, .i32⟩
  | 14 => ⟨S64x1024, .i32⟩
  | 15 => ⟨S64x1024, .i32⟩
  | 16 => ⟨S_, .i32⟩
  | 17 => ⟨S64x1024, .i32⟩
  | 18 => ⟨S64x1024, .i32⟩
  | 19 => ⟨S_, .i32⟩
  | 20 => ⟨S64x1024, .i32⟩
  | 21 => ⟨S64x1024, .i32⟩
  | 22 => ⟨S64x1024, .i32⟩
  | 23 => ⟨S64x1024, .i32⟩
  | 24 => ⟨S64x1024, .i32⟩
  | 25 => ⟨S_, .i32⟩
  | 26 => ⟨S64x1024, .i32⟩
  | 27 => ⟨S64x1024, .i32⟩
  | 28 => ⟨S_, .i32⟩
  | 29 => ⟨S64x1024, .i32⟩
  | 30 => ⟨S64x1024, .i32⟩
  | 31 => ⟨S64x1024, .i32⟩
  | 32 => ⟨S64x1024, .i32⟩
  | 33 => ⟨S64x1024, .i32⟩
  | 34 => ⟨S_, .i32⟩
  | 35 => ⟨S64x1024, .i32⟩
  | 36 => ⟨S64x1024, .i32⟩
  | 37 => ⟨S_, .i32⟩
  | 38 => ⟨S64x1024, .i32⟩
  | 39 => ⟨S64x1024, .i32⟩
  | 40 => ⟨S64x1024, .i32⟩
  | 41 => ⟨S64x1024, .i32⟩
  | 42 => ⟨S64x1024, .i32⟩
  | 43 => ⟨S_, .i32⟩
  | 44 => ⟨S64x1024, .i32⟩
  | 45 => ⟨S64x1024, .i32⟩
  | 46 => ⟨S_, .i32⟩
  | 47 => ⟨S64x1024, .i32⟩
  | 48 => ⟨S64x1024, .i32⟩
  | 49 => ⟨S64x1024, .i32⟩
  | 50 => ⟨S64x1024, .i32⟩
  | 51 => ⟨S64x1024, .i32⟩
  | 52 => ⟨S64x1024, .i32⟩
  | 53 => ⟨S64x1024, .i32⟩
  | 54 => ⟨S64x1024, .i32⟩
  | 55 => ⟨S_, .i32⟩
  | 56 => ⟨S64x1024, .i32⟩
  | 57 => ⟨S64x1024, .i32⟩
  | 58 => ⟨S64x1024, .i32⟩
  | 59 => ⟨S_, .i32⟩
  | 60 => ⟨S64x1024, .i32⟩
  | 61 => ⟨S64x1024, .i32⟩
  | 62 => ⟨S_, .i32⟩
  | 63 => ⟨S64x1024, .i32⟩
  | 64 => ⟨S64x1024, .i32⟩
  | 65 => ⟨S64x1024, .i32⟩
  | 66 => ⟨S64x1024, .i32⟩
  | 67 => ⟨S64x1024, .i32⟩
  | 68 => ⟨S_, .i32⟩
  | 69 => ⟨S64x1024, .i32⟩
  | 70 => ⟨S64x1024, .i32⟩
  | 71 => ⟨S_, .i32⟩
  | 72 => ⟨S64x1024, .i32⟩
  | 73 => ⟨S64x1024, .i32⟩
  | 74 => ⟨S64x1024, .i32⟩
  | 75 => ⟨S64x1024, .i32⟩
  | 76 => ⟨S64x1024, .i32⟩
  | 77 => ⟨S_, .i32⟩
  | 78 => ⟨S64x1024, .i32⟩
  | 79 => ⟨S64x1024, .i32⟩
  | 80 => ⟨S_, .i32⟩
  | 81 => ⟨S64x1024, .i32⟩
  | 82 => ⟨S64x1024, .i32⟩
  | 83 => ⟨S64x1024, .i32⟩
  | 84 => ⟨S64x1024, .i32⟩
  | 85 => ⟨S64x1024, .i32⟩
  | 86 => ⟨S_, .i32⟩
  | 87 => ⟨S64x1024, .i32⟩
  | 88 => ⟨S64x1024, .i32⟩
  | 89 => ⟨S_, .i32⟩
  | 90 => ⟨S64x1024, .i32⟩
  | 91 => ⟨S64x1024, .i32⟩
  | 92 => ⟨S64x1024, .i32⟩
  | 93 => ⟨S64x1024, .i32⟩
  | 94 => ⟨S64x1024, .i32⟩
  | 95 => ⟨S64x1024, .i32⟩
  | 96 => ⟨S64x1024, .i32⟩
  | 97 => ⟨S64x1024, .i32⟩
  | 98 => ⟨S_, .i32⟩
  | 99 => ⟨S64x1024, .i32⟩
  | 100 => ⟨S64x1024, .i32⟩
  | 101 => ⟨S64x1024, .i32⟩
  | 102 => ⟨S64x1024, .i32⟩
  | 103 => ⟨S64x1024, .i32⟩
  | 104 => ⟨S64x1024, .i32⟩
  | 105 => ⟨S1024x64, .i32⟩
  | 106 => ⟨S1024x64, .i32⟩
  | 107 => ⟨S1024x64, .i32⟩
  | 108 => ⟨S1024x64, .i32⟩
  | 109 => ⟨S1024x64x1, .i32⟩
  | 110 => ⟨S_, .i32⟩
  | 111 => ⟨S1024x64x1, .i32⟩
  | 112 => ⟨S1024x64x1, .i1⟩
  | 113 => ⟨S_, .i32⟩
  | 114 => ⟨S1024x64x1, .i32⟩
  | 115 => ⟨S1024x64x1, .i32⟩
  | 116 => ⟨S1024x64x1, .i32⟩
  | 117 => ⟨S1, .i32⟩
  | 118 => ⟨S_, .i32⟩
  | 119 => ⟨S1024x64x1, .i32⟩
  | 120 => ⟨S1024x64x1, .i1⟩
  | 121 => ⟨S1x1x1, .i32⟩
  | 122 => ⟨S1024x64x1, .i32⟩
  | 123 => ⟨S1024x64x1, .i1⟩
  | 124 => ⟨S1024x64x1, .i1⟩
  | 125 => ⟨S_, .i1⟩
  | 126 => ⟨S1024x64, .i1⟩
  | 127 => ⟨S1024x64x192, .f32⟩
  | _ => ⟨S1024x64x192, .f32⟩

abbrev hbmTy0_6 (i : Nat) : BufTy := match i % 128 with
  | 0 => ⟨S1024x64x192, .i1⟩
  | 1 => ⟨S_, .f32⟩
  | 2 => ⟨S1024x64x192, .f32⟩
  | 3 => ⟨S1024x64x192, .f32⟩
  | 4 => ⟨S256x64x192, .f32⟩
  | _ => ⟨S1024x64x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x64x192, .f32⟩

abbrev bufTy : (tb : Table) → Fin (tcTables nBuf tb) → BufTy
  | .hbm, ⟨i, _⟩ => hbmTy i
  | _, _ => ⟨S1024x64x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_call1_call0_v0 : Ref sig .tc := ⟨.hbm, 250, rfl⟩
abbrev main_call1_call0_v1 : Ref sig .tc := ⟨.hbm, 251, rfl⟩
abbrev main_call1_call0_v2 : Ref sig .tc := ⟨.hbm, 252, rfl⟩
abbrev main_call1_call0_v3 : Ref sig .tc := ⟨.hbm, 253, rfl⟩
abbrev main_call1_call0_v4 : Ref sig .tc := ⟨.hbm, 254, rfl⟩
abbrev main_call1_call0_c : Ref sig .tc := ⟨.hbm, 255, rfl⟩
abbrev main_call1_call0_v5 : Ref sig .tc := ⟨.hbm, 256, rfl⟩
abbrev main_call1_call0_v6 : Ref sig .tc := ⟨.hbm, 257, rfl⟩
abbrev main_call1_call0_c_0 : Ref sig .tc := ⟨.hbm, 258, rfl⟩
abbrev main_call1_call0_v7 : Ref sig .tc := ⟨.hbm, 259, rfl⟩
abbrev main_call1_call0_v8 : Ref sig .tc := ⟨.hbm, 260, rfl⟩
abbrev main_call1_call0_v9 : Ref sig .tc := ⟨.hbm, 261, rfl⟩
abbrev main_call1_call0_v10 : Ref sig .tc := ⟨.hbm, 262, rfl⟩
abbrev main_call1_call0_v11 : Ref sig .tc := ⟨.hbm, 263, rfl⟩
abbrev main_call1_call0_v12 : Ref sig .tc := ⟨.hbm, 264, rfl⟩
abbrev main_call1_call0_v13 : Ref sig .tc := ⟨.hbm, 265, rfl⟩
abbrev main_call1_call0_v14 : Ref sig .tc := ⟨.hbm, 266, rfl⟩
abbrev main_call1_call0_call0_v0 : Ref sig .tc := ⟨.hbm, 267, rfl⟩
abbrev main_call1_call0_call0_c : Ref sig .tc := ⟨.hbm, 268, rfl⟩
abbrev main_call1_call0_call0_v1 : Ref sig .tc := ⟨.hbm, 269, rfl⟩
abbrev main_call1_call0_call0_v2 : Ref sig .tc := ⟨.hbm, 270, rfl⟩
abbrev main_call1_call0_call0_v3 : Ref sig .tc := ⟨.hbm, 271, rfl⟩
abbrev main_call1_call0_call0_v4 : Ref sig .tc := ⟨.hbm, 272, rfl⟩
abbrev main_call1_call0_call0_v5 : Ref sig .tc := ⟨.hbm, 273, rfl⟩
abbrev main_call1_call0_call0_v6 : Ref sig .tc := ⟨.hbm, 274, rfl⟩
abbrev main_call1_call0_call0_v7 : Ref sig .tc := ⟨.hbm, 275, rfl⟩
abbrev main_call1_call0_call0_v8 : Ref sig .tc := ⟨.hbm, 276, rfl⟩
abbrev main_call1_call0_call0_v9 : Ref sig .tc := ⟨.hbm, 277, rfl⟩
abbrev main_call1_call0_call0_c_0 : Ref sig .tc := ⟨.hbm, 278, rfl⟩
abbrev main_call1_call0_call0_v10 : Ref sig .tc := ⟨.hbm, 279, rfl⟩
abbrev main_call1_call0_call0_v11 : Ref sig .tc := ⟨.hbm, 280, rfl⟩
abbrev main_call1_call0_call0_c_1 : Ref sig .tc := ⟨.hbm, 281, rfl⟩
abbrev main_call1_call0_call0_v12 : Ref sig .tc := ⟨.hbm, 282, rfl⟩
abbrev main_call1_call0_call0_v13 : Ref sig .tc := ⟨.hbm, 283, rfl⟩
abbrev main_call1_call0_call0_v14 : Ref sig .tc := ⟨.hbm, 284, rfl⟩
abbrev main_call1_call0_call0_v15 : Ref sig .tc := ⟨.hbm, 285, rfl⟩
abbrev main_call1_call0_call0_v16 : Ref sig .tc := ⟨.hbm, 286, rfl⟩
abbrev main_call1_call0_call0_c_2 : Ref sig .tc := ⟨.hbm, 287, rfl⟩
abbrev main_call1_call0_call0_v17 : Ref sig .tc := ⟨.hbm, 288, rfl⟩
abbrev main_call1_call0_call0_v18 : Ref sig .tc := ⟨.hbm, 289, rfl⟩
abbrev main_call1_call0_call0_c_3 : Ref sig .tc := ⟨.hbm, 290, rfl⟩
abbrev main_call1_call0_call0_v19 : Ref sig .tc := ⟨.hbm, 291, rfl⟩
abbrev main_call1_call0_call0_v20 : Ref sig .tc := ⟨.hbm, 292, rfl⟩
abbrev main_call1_call0_call0_v21 : Ref sig .tc := ⟨.hbm, 293, rfl⟩
abbrev main_call1_call0_call0_v22 : Ref sig .tc := ⟨.hbm, 294, rfl⟩
abbrev main_call1_call0_call0_v23 : Ref sig .tc := ⟨.hbm, 295, rfl⟩
abbrev main_call1_call0_call0_c_4 : Ref sig .tc := ⟨.hbm, 296, rfl⟩
abbrev main_call1_call0_call0_v24 : Ref sig .tc := ⟨.hbm, 297, rfl⟩
abbrev main_call1_call0_call0_v25 : Ref sig .tc := ⟨.hbm, 298, rfl⟩
abbrev main_call1_call0_call0_c_5 : Ref sig .tc := ⟨.hbm, 299, rfl⟩
abbrev main_call1_call0_call0_v26 : Ref sig .tc := ⟨.hbm, 300, rfl⟩
abbrev main_call1_call0_call0_v27 : Ref sig .tc := ⟨.hbm, 301, rfl⟩
abbrev main_call1_call0_call0_v28 : Ref sig .tc := ⟨.hbm, 302, rfl⟩
abbrev main_call1_call0_call0_v29 : Ref sig .tc := ⟨.hbm, 303, rfl⟩
abbrev main_call1_call0_call0_v30 : Ref sig .tc := ⟨.hbm, 304, rfl⟩
abbrev main_call1_call0_call0_c_6 : Ref sig .tc := ⟨.hbm, 305, rfl⟩
abbrev main_call1_call0_call0_v31 : Ref sig .tc := ⟨.hbm, 306, rfl⟩
abbrev main_call1_call0_call0_v32 : Ref sig .tc := ⟨.hbm, 307, rfl⟩
abbrev main_call1_call0_call0_c_7 : Ref sig .tc := ⟨.hbm, 308, rfl⟩
abbrev main_call1_call0_call0_v33 : Ref sig .tc := ⟨.hbm, 309, rfl⟩
abbrev main_call1_call0_call0_v34 : Ref sig .tc := ⟨.hbm, 310, rfl⟩
abbrev main_call1_call0_call0_v35 : Ref sig .tc := ⟨.hbm, 311, rfl⟩
abbrev main_call1_call0_call0_v36 : Ref sig .tc := ⟨.hbm, 312, rfl⟩
abbrev main_call1_call0_call0_v37 : Ref sig .tc := ⟨.hbm, 313, rfl⟩
abbrev main_call1_call0_call0_v38 : Ref sig .tc := ⟨.hbm, 314, rfl⟩
abbrev main_call1_call0_call0_v39 : Ref sig .tc := ⟨.hbm, 315, rfl⟩
abbrev main_call1_call0_call0_v40 : Ref sig .tc := ⟨.hbm, 316, rfl⟩
abbrev main_call1_call0_call0_c_8 : Ref sig .tc := ⟨.hbm, 317, rfl⟩
abbrev main_call1_call0_call0_v41 : Ref sig .tc := ⟨.hbm, 318, rfl⟩
abbrev main_call1_call0_call0_v42 : Ref sig .tc := ⟨.hbm, 319, rfl⟩
abbrev main_call1_call0_call0_v43 : Ref sig .tc := ⟨.hbm, 320, rfl⟩
abbrev main_call1_call0_call0_c_9 : Ref sig .tc := ⟨.hbm, 321, rfl⟩
abbrev main_call1_call0_call0_v44 : Ref sig .tc := ⟨.hbm, 322, rfl⟩
abbrev main_call1_call0_call0_v45 : Ref sig .tc := ⟨.hbm, 323, rfl⟩
abbrev main_call1_call0_call0_c_10 : Ref sig .tc := ⟨.hbm, 324, rfl⟩
abbrev main_call1_call0_call0_v46 : Ref sig .tc := ⟨.hbm, 325, rfl⟩
abbrev main_call1_call0_call0_v47 : Ref sig .tc := ⟨.hbm, 326, rfl⟩
abbrev main_call1_call0_call0_v48 : Ref sig .tc := ⟨.hbm, 327, rfl⟩
abbrev main_call1_call0_call0_v49 : Ref sig .tc := ⟨.hbm, 328, rfl⟩
abbrev main_call1_call0_call0_v50 : Ref sig .tc := ⟨.hbm, 329, rfl⟩
abbrev main_call1_call0_call0_c_11 : Ref sig .tc := ⟨.hbm, 330, rfl⟩
abbrev main_call1_call0_call0_v51 : Ref sig .tc := ⟨.hbm, 331, rfl⟩
abbrev main_call1_call0_call0_v52 : Ref sig .tc := ⟨.hbm, 332, rfl⟩
abbrev main_call1_call0_call0_c_12 : Ref sig .tc := ⟨.hbm, 333, rfl⟩
abbrev main_call1_call0_call0_v53 : Ref sig .tc := ⟨.hbm, 334, rfl⟩
abbrev main_call1_call0_call0_v54 : Ref sig .tc := ⟨.hbm, 335, rfl⟩
abbrev main_call1_call0_call0_v55 : Ref sig .tc := ⟨.hbm, 336, rfl⟩
abbrev main_call1_call0_call0_v56 : Ref sig .tc := ⟨.hbm, 337, rfl⟩
abbrev main_call1_call0_call0_v57 : Ref sig .tc := ⟨.hbm, 338, rfl⟩
abbrev main_call1_call0_call0_c_13 : Ref sig .tc := ⟨.hbm, 339, rfl⟩
abbrev main_call1_call0_call0_v58 : Ref sig .tc := ⟨.hbm, 340, rfl⟩
abbrev main_call1_call0_call0_v59 : Ref sig .tc := ⟨.hbm, 341, rfl⟩
abbrev main_call1_call0_call0_c_14 : Ref sig .tc := ⟨.hbm, 342, rfl⟩
abbrev main_call1_call0_call0_v60 : Ref sig .tc := ⟨.hbm, 343, rfl⟩
abbrev main_call1_call0_call0_v61 : Ref sig .tc := ⟨.hbm, 344, rfl⟩
abbrev main_call1_call0_call0_v62 : Ref sig .tc := ⟨.hbm, 345, rfl⟩
abbrev main_call1_call0_call0_v63 : Ref sig .tc := ⟨.hbm, 346, rfl⟩
abbrev main_call1_call0_call0_v64 : Ref sig .tc := ⟨.hbm, 347, rfl⟩
abbrev main_call1_call0_call0_c_15 : Ref sig .tc := ⟨.hbm, 348, rfl⟩
abbrev main_call1_call0_call0_v65 : Ref sig .tc := ⟨.hbm, 349, rfl⟩
abbrev main_call1_call0_call0_v66 : Ref sig .tc := ⟨.hbm, 350, rfl⟩
abbrev main_call1_call0_call0_c_16 : Ref sig .tc := ⟨.hbm, 351, rfl⟩
abbrev main_call1_call0_call0_v67 : Ref sig .tc := ⟨.hbm, 352, rfl⟩
abbrev main_call1_call0_call0_v68 : Ref sig .tc := ⟨.hbm, 353, rfl⟩
abbrev main_call1_call0_call0_v69 : Ref sig .tc := ⟨.hbm, 354, rfl⟩
abbrev main_call1_call0_call0_v70 : Ref sig .tc := ⟨.hbm, 355, rfl⟩
abbrev main_call1_call0_call0_v71 : Ref sig .tc := ⟨.hbm, 356, rfl⟩
abbrev main_call1_call0_call0_v72 : Ref sig .tc := ⟨.hbm, 357, rfl⟩
abbrev main_call1_call0_call0_v73 : Ref sig .tc := ⟨.hbm, 358, rfl⟩
abbrev main_call1_call0_call0_v74 : Ref sig .tc := ⟨.hbm, 359, rfl⟩
abbrev main_call1_call0_call0_c_17 : Ref sig .tc := ⟨.hbm, 360, rfl⟩
abbrev main_call1_call0_call0_v75 : Ref sig .tc := ⟨.hbm, 361, rfl⟩
abbrev main_call1_call0_call0_v76 : Ref sig .tc := ⟨.hbm, 362, rfl⟩
abbrev main_call1_call0_call0_v77 : Ref sig .tc := ⟨.hbm, 363, rfl⟩
abbrev main_call1_call0_call0_c_18 : Ref sig .tc := ⟨.hbm, 364, rfl⟩
abbrev main_call1_call0_call0_v78 : Ref sig .tc := ⟨.hbm, 365, rfl⟩
abbrev main_call1_call0_call0_v79 : Ref sig .tc := ⟨.hbm, 366, rfl⟩
abbrev main_call1_call0_call0_c_19 : Ref sig .tc := ⟨.hbm, 367, rfl⟩
abbrev main_call1_call0_call0_v80 : Ref sig .tc := ⟨.hbm, 368, rfl⟩
abbrev main_call1_call0_call0_v81 : Ref sig .tc := ⟨.hbm, 369, rfl⟩
abbrev main_call1_call0_call0_v82 : Ref sig .tc := ⟨.hbm, 370, rfl⟩
abbrev main_call1_call0_call0_v83 : Ref sig .tc := ⟨.hbm, 371, rfl⟩
abbrev main_call1_call0_call0_v84 : Ref sig .tc := ⟨.hbm, 372, rfl⟩
abbrev main_call1_call0_call0_c_20 : Ref sig .tc := ⟨.hbm, 373, rfl⟩
abbrev main_call1_call0_call0_v85 : Ref sig .tc := ⟨.hbm, 374, rfl⟩
abbrev main_call1_call0_call0_v86 : Ref sig .tc := ⟨.hbm, 375, rfl⟩
abbrev main_call1_call0_call0_c_21 : Ref sig .tc := ⟨.hbm, 376, rfl⟩
abbrev main_call1_call0_call0_v87 : Ref sig .tc := ⟨.hbm, 377, rfl⟩
abbrev main_call1_call0_call0_v88 : Ref sig .tc := ⟨.hbm, 378, rfl⟩
abbrev main_call1_call0_call0_v89 : Ref sig .tc := ⟨.hbm, 379, rfl⟩
abbrev main_call1_call0_call0_v90 : Ref sig .tc := ⟨.hbm, 380, rfl⟩
abbrev main_call1_call0_call0_v91 : Ref sig .tc := ⟨.hbm, 381, rfl⟩
abbrev main_call1_call0_call0_c_22 : Ref sig .tc := ⟨.hbm, 382, rfl⟩
abbrev main_call1_call0_call0_v92 : Ref sig .tc := ⟨.hbm, 383, rfl⟩
abbrev main_call1_call0_call0_v93 : Ref sig .tc := ⟨.hbm, 384, rfl⟩
abbrev main_call1_call0_call0_c_23 : Ref sig .tc := ⟨.hbm, 385, rfl⟩
abbrev main_call1_call0_call0_v94 : Ref sig .tc := ⟨.hbm, 386, rfl⟩
abbrev main_call1_call0_call0_v95 : Ref sig .tc := ⟨.hbm, 387, rfl⟩
abbrev main_call1_call0_call0_v96 : Ref sig .tc := ⟨.hbm, 388, rfl⟩
abbrev main_call1_call0_call0_v97 : Ref sig .tc := ⟨.hbm, 389, rfl⟩
abbrev main_call1_call0_call0_v98 : Ref sig .tc := ⟨.hbm, 390, rfl⟩
abbrev main_call1_call0_call0_c_24 : Ref sig .tc := ⟨.hbm, 391, rfl⟩
abbrev main_call1_call0_call0_v99 : Ref sig .tc := ⟨.hbm, 392, rfl⟩
abbrev main_call1_call0_call0_v100 : Ref sig .tc := ⟨.hbm, 393, rfl⟩
abbrev main_call1_call0_call0_c_25 : Ref sig .tc := ⟨.hbm, 394, rfl⟩
abbrev main_call1_call0_call0_v101 : Ref sig .tc := ⟨.hbm, 395, rfl⟩
abbrev main_call1_call0_call0_v102 : Ref sig .tc := ⟨.hbm, 396, rfl⟩
abbrev main_call1_call0_call0_v103 : Ref sig .tc := ⟨.hbm, 397, rfl⟩
abbrev main_call1_call0_call0_v104 : Ref sig .tc := ⟨.hbm, 398, rfl⟩
abbrev main_call1_call0_call0_v105 : Ref sig .tc := ⟨.hbm, 399, rfl⟩
abbrev main_call1_call0_call0_v106 : Ref sig .tc := ⟨.hbm, 400, rfl⟩
abbrev main_call1_call0_call0_v107 : Ref sig .tc := ⟨.hbm, 401, rfl⟩
abbrev main_call1_call0_call0_v108 : Ref sig .tc := ⟨.hbm, 402, rfl⟩
abbrev main_call1_call0_call0_c_26 : Ref sig .tc := ⟨.hbm, 403, rfl⟩
abbrev main_call1_call0_call0_v109 : Ref sig .tc := ⟨.hbm, 404, rfl⟩
abbrev main_call1_call0_call0_v110 : Ref sig .tc := ⟨.hbm, 405, rfl⟩
abbrev main_call1_call0_call0_v111 : Ref sig .tc := ⟨.hbm, 406, rfl⟩
abbrev main_call1_call0_call0_c_27 : Ref sig .tc := ⟨.hbm, 407, rfl⟩
abbrev main_call1_call0_call0_v112 : Ref sig .tc := ⟨.hbm, 408, rfl⟩
abbrev main_call1_call0_call0_v113 : Ref sig .tc := ⟨.hbm, 409, rfl⟩
abbrev main_call1_call0_call0_c_28 : Ref sig .tc := ⟨.hbm, 410, rfl⟩
abbrev main_call1_call0_call0_v114 : Ref sig .tc := ⟨.hbm, 411, rfl⟩
abbrev main_call1_call0_call0_v115 : Ref sig .tc := ⟨.hbm, 412, rfl⟩
abbrev main_call1_call0_call0_v116 : Ref sig .tc := ⟨.hbm, 413, rfl⟩
abbrev main_call1_call0_call0_v117 : Ref sig .tc := ⟨.hbm, 414, rfl⟩
abbrev main_call1_call0_call0_v118 : Ref sig .tc := ⟨.hbm, 415, rfl⟩
abbrev main_call1_call0_call0_c_29 : Ref sig .tc := ⟨.hbm, 416, rfl⟩
abbrev main_call1_call0_call0_v119 : Ref sig .tc := ⟨.hbm, 417, rfl⟩
abbrev main_call1_call0_call0_v120 : Ref sig .tc := ⟨.hbm, 418, rfl⟩
abbrev main_call1_call0_call0_c_30 : Ref sig .tc := ⟨.hbm, 419, rfl⟩
abbrev main_call1_call0_call0_v121 : Ref sig .tc := ⟨.hbm, 420, rfl⟩
abbrev main_call1_call0_call0_v122 : Ref sig .tc := ⟨.hbm, 421, rfl⟩
abbrev main_call1_call0_call0_v123 : Ref sig .tc := ⟨.hbm, 422, rfl⟩
abbrev main_call1_call0_call0_v124 : Ref sig .tc := ⟨.hbm, 423, rfl⟩
abbrev main_call1_call0_call0_v125 : Ref sig .tc := ⟨.hbm, 424, rfl⟩
abbrev main_call1_call0_call0_c_31 : Ref sig .tc := ⟨.hbm, 425, rfl⟩
abbrev main_call1_call0_call0_v126 : Ref sig .tc := ⟨.hbm, 426, rfl⟩
abbrev main_call1_call0_call0_v127 : Ref sig .tc := ⟨.hbm, 427, rfl⟩
abbrev main_call1_call0_call0_c_32 : Ref sig .tc := ⟨.hbm, 428, rfl⟩
abbrev main_call1_call0_call0_v128 : Ref sig .tc := ⟨.hbm, 429, rfl⟩
abbrev main_call1_call0_call0_v129 : Ref sig .tc := ⟨.hbm, 430, rfl⟩
abbrev main_call1_call0_call0_v130 : Ref sig .tc := ⟨.hbm, 431, rfl⟩
abbrev main_call1_call0_call0_v131 : Ref sig .tc := ⟨.hbm, 432, rfl⟩
abbrev main_call1_call0_call0_v132 : Ref sig .tc := ⟨.hbm, 433, rfl⟩
abbrev main_call1_call0_call0_c_33 : Ref sig .tc := ⟨.hbm, 434, rfl⟩
abbrev main_call1_call0_call0_v133 : Ref sig .tc := ⟨.hbm, 435, rfl⟩
abbrev main_call1_call0_call0_v134 : Ref sig .tc := ⟨.hbm, 436, rfl⟩
abbrev main_call1_call0_call0_c_34 : Ref sig .tc := ⟨.hbm, 437, rfl⟩
abbrev main_call1_call0_call0_v135 : Ref sig .tc := ⟨.hbm, 438, rfl⟩
abbrev main_call1_call0_call0_v136 : Ref sig .tc := ⟨.hbm, 439, rfl⟩
abbrev main_call1_call0_call0_v137 : Ref sig .tc := ⟨.hbm, 440, rfl⟩
abbrev main_call1_call0_call0_v138 : Ref sig .tc := ⟨.hbm, 441, rfl⟩
abbrev main_call1_call0_call0_v139 : Ref sig .tc := ⟨.hbm, 442, rfl⟩
abbrev main_call1_call0_call0_v140 : Ref sig .tc := ⟨.hbm, 443, rfl⟩
abbrev main_call1_call0_call0_v141 : Ref sig .tc := ⟨.hbm, 444, rfl⟩
abbrev main_call1_call0_call0_v142 : Ref sig .tc := ⟨.hbm, 445, rfl⟩
abbrev main_call1_call0_call0_c_35 : Ref sig .tc := ⟨.hbm, 446, rfl⟩
abbrev main_call1_call0_call0_v143 : Ref sig .tc := ⟨.hbm, 447, rfl⟩
abbrev main_call1_call0_call0_v144 : Ref sig .tc := ⟨.hbm, 448, rfl⟩
abbrev main_call1_call0_call0_v145 : Ref sig .tc := ⟨.hbm, 449, rfl⟩
abbrev main_call1_call0_call0_c_36 : Ref sig .tc := ⟨.hbm, 450, rfl⟩
abbrev main_call1_call0_call0_v146 : Ref sig .tc := ⟨.hbm, 451, rfl⟩
abbrev main_call1_call0_call0_v147 : Ref sig .tc := ⟨.hbm, 452, rfl⟩
abbrev main_call1_call0_call0_c_37 : Ref sig .tc := ⟨.hbm, 453, rfl⟩
abbrev main_call1_call0_call0_v148 : Ref sig .tc := ⟨.hbm, 454, rfl⟩
abbrev main_call1_call0_call0_v149 : Ref sig .tc := ⟨.hbm, 455, rfl⟩
abbrev main_call1_call0_call0_v150 : Ref sig .tc := ⟨.hbm, 456, rfl⟩
abbrev main_call1_call0_call0_v151 : Ref sig .tc := ⟨.hbm, 457, rfl⟩
abbrev main_call1_call0_call0_v152 : Ref sig .tc := ⟨.hbm, 458, rfl⟩
abbrev main_call1_call0_call0_c_38 : Ref sig .tc := ⟨.hbm, 459, rfl⟩
abbrev main_call1_call0_call0_v153 : Ref sig .tc := ⟨.hbm, 460, rfl⟩
abbrev main_call1_call0_call0_v154 : Ref sig .tc := ⟨.hbm, 461, rfl⟩
abbrev main_call1_call0_call0_c_39 : Ref sig .tc := ⟨.hbm, 462, rfl⟩
abbrev main_call1_call0_call0_v155 : Ref sig .tc := ⟨.hbm, 463, rfl⟩
abbrev main_call1_call0_call0_v156 : Ref sig .tc := ⟨.hbm, 464, rfl⟩
abbrev main_call1_call0_call0_v157 : Ref sig .tc := ⟨.hbm, 465, rfl⟩
abbrev main_call1_call0_call0_v158 : Ref sig .tc := ⟨.hbm, 466, rfl⟩
abbrev main_call1_call0_call0_v159 : Ref sig .tc := ⟨.hbm, 467, rfl⟩
abbrev main_call1_call0_call0_c_40 : Ref sig .tc := ⟨.hbm, 468, rfl⟩
abbrev main_call1_call0_call0_v160 : Ref sig .tc := ⟨.hbm, 469, rfl⟩
abbrev main_call1_call0_call0_v161 : Ref sig .tc := ⟨.hbm, 470, rfl⟩
abbrev main_call1_call0_call0_c_41 : Ref sig .tc := ⟨.hbm, 471, rfl⟩
abbrev main_call1_call0_call0_v162 : Ref sig .tc := ⟨.hbm, 472, rfl⟩
abbrev main_call1_call0_call0_v163 : Ref sig .tc := ⟨.hbm, 473, rfl⟩
abbrev main_call1_call0_call0_v164 : Ref sig .tc := ⟨.hbm, 474, rfl⟩
abbrev main_call1_call0_call0_v165 : Ref sig .tc := ⟨.hbm, 475, rfl⟩
abbrev main_call1_call0_call0_v166 : Ref sig .tc := ⟨.hbm, 476, rfl⟩
abbrev main_call1_call0_call0_c_42 : Ref sig .tc := ⟨.hbm, 477, rfl⟩
abbrev main_call1_call0_call0_v167 : Ref sig .tc := ⟨.hbm, 478, rfl⟩
abbrev main_call1_call0_call0_v168 : Ref sig .tc := ⟨.hbm, 479, rfl⟩
abbrev main_call1_call0_call0_c_43 : Ref sig .tc := ⟨.hbm, 480, rfl⟩
abbrev main_call1_call0_call0_v169 : Ref sig .tc := ⟨.hbm, 481, rfl⟩
abbrev main_call1_call0_call0_v170 : Ref sig .tc := ⟨.hbm, 482, rfl⟩
abbrev main_call1_call0_call0_v171 : Ref sig .tc := ⟨.hbm, 483, rfl⟩
abbrev main_call1_call0_call0_v172 : Ref sig .tc := ⟨.hbm, 484, rfl⟩
abbrev main_call1_call0_call0_v173 : Ref sig .tc := ⟨.hbm, 485, rfl⟩
abbrev main_call1_call0_v15_0 : Ref sig .tc := ⟨.hbm, 486, rfl⟩
abbrev main_call1_call0_call0_v175 : Ref sig .tc := ⟨.hbm, 487, rfl⟩
abbrev main_call1_call0_call0_v176 : Ref sig .tc := ⟨.hbm, 488, rfl⟩
abbrev main_call1_call0_call0_c_44 : Ref sig .tc := ⟨.hbm, 489, rfl⟩
abbrev main_call1_call0_call0_v177 : Ref sig .tc := ⟨.hbm, 490, rfl⟩
abbrev main_call1_call0_v15_1 : Ref sig .tc := ⟨.hbm, 491, rfl⟩
abbrev main_call1_call0_v16 : Ref sig .tc := ⟨.hbm, 492, rfl⟩
abbrev main_call1_call0_v17 : Ref sig .tc := ⟨.hbm, 493, rfl⟩
abbrev main_call1_v0 : Ref sig .tc := ⟨.hbm, 494, rfl⟩
abbrev main_call1_v1 : Ref sig .tc := ⟨.hbm, 495, rfl⟩
abbrev main_call1_v2 : Ref sig .tc := ⟨.hbm, 496, rfl⟩
abbrev main_call1_v3 : Ref sig .tc := ⟨.hbm, 497, rfl⟩
abbrev main_call1_v4 : Ref sig .tc := ⟨.hbm, 498, rfl⟩
abbrev main_call1_v5 : Ref sig .tc := ⟨.hbm, 499, rfl⟩
abbrev main_call1_v6 : Ref sig .tc := ⟨.hbm, 500, rfl⟩
abbrev main_call1_v7 : Ref sig .tc := ⟨.hbm, 501, rfl⟩
abbrev main_call1_v8 : Ref sig .tc := ⟨.hbm, 502, rfl⟩
abbrev main_call1_v9 : Ref sig .tc := ⟨.hbm, 503, rfl⟩
abbrev main_call1_c : Ref sig .tc := ⟨.hbm, 504, rfl⟩
abbrev main_call1_v10 : Ref sig .tc := ⟨.hbm, 505, rfl⟩
abbrev main_call1_v11 : Ref sig .tc := ⟨.hbm, 506, rfl⟩
abbrev main_call1_c_0 : Ref sig .tc := ⟨.hbm, 507, rfl⟩
abbrev main_call1_v12 : Ref sig .tc := ⟨.hbm, 508, rfl⟩
abbrev main_call1_v13 : Ref sig .tc := ⟨.hbm, 509, rfl⟩
abbrev main_call1_v14 : Ref sig .tc := ⟨.hbm, 510, rfl⟩
abbrev main_call1_v15 : Ref sig .tc := ⟨.hbm, 511, rfl⟩
abbrev main_call1_v16 : Ref sig .tc := ⟨.hbm, 512, rfl⟩
abbrev main_call1_v17 : Ref sig .tc := ⟨.hbm, 513, rfl⟩
abbrev main_call1_v18 : Ref sig .tc := ⟨.hbm, 514, rfl⟩
abbrev main_call1_v19 : Ref sig .tc := ⟨.hbm, 515, rfl⟩
abbrev main_call1_call1_v0 : Ref sig .tc := ⟨.hbm, 516, rfl⟩
abbrev main_call1_call1_c : Ref sig .tc := ⟨.hbm, 517, rfl⟩
abbrev main_call1_call1_v1 : Ref sig .tc := ⟨.hbm, 518, rfl⟩
abbrev main_call1_call1_v2 : Ref sig .tc := ⟨.hbm, 519, rfl⟩
abbrev main_call1_call1_v3 : Ref sig .tc := ⟨.hbm, 520, rfl⟩
abbrev main_call1_call1_v4 : Ref sig .tc := ⟨.hbm, 521, rfl⟩
abbrev main_call1_call1_v5 : Ref sig .tc := ⟨.hbm, 522, rfl⟩
abbrev main_call1_call1_v6 : Ref sig .tc := ⟨.hbm, 523, rfl⟩
abbrev main_call1_call1_v7 : Ref sig .tc := ⟨.hbm, 524, rfl⟩
abbrev main_call1_call1_v8 : Ref sig .tc := ⟨.hbm, 525, rfl⟩
abbrev main_call1_call1_v9 : Ref sig .tc := ⟨.hbm, 526, rfl⟩
abbrev main_call1_call1_c_0 : Ref sig .tc := ⟨.hbm, 527, rfl⟩
abbrev main_call1_call1_v10 : Ref sig .tc := ⟨.hbm, 528, rfl⟩
abbrev main_call1_call1_v11 : Ref sig .tc := ⟨.hbm, 529, rfl⟩
abbrev main_call1_call1_c_1 : Ref sig .tc := ⟨.hbm, 530, rfl⟩
abbrev main_call1_call1_v12 : Ref sig .tc := ⟨.hbm, 531, rfl⟩
abbrev main_call1_call1_v13 : Ref sig .tc := ⟨.hbm, 532, rfl⟩
abbrev main_call1_call1_v14 : Ref sig .tc := ⟨.hbm, 533, rfl⟩
abbrev main_call1_call1_v15 : Ref sig .tc := ⟨.hbm, 534, rfl⟩
abbrev main_call1_call1_v16 : Ref sig .tc := ⟨.hbm, 535, rfl⟩
abbrev main_call1_call1_c_2 : Ref sig .tc := ⟨.hbm, 536, rfl⟩
abbrev main_call1_call1_v17 : Ref sig .tc := ⟨.hbm, 537, rfl⟩
abbrev main_call1_call1_v18 : Ref sig .tc := ⟨.hbm, 538, rfl⟩
abbrev main_call1_call1_c_3 : Ref sig .tc := ⟨.hbm, 539, rfl⟩
abbrev main_call1_call1_v19 : Ref sig .tc := ⟨.hbm, 540, rfl⟩
abbrev main_call1_call1_v20 : Ref sig .tc := ⟨.hbm, 541, rfl⟩
abbrev main_call1_call1_v21 : Ref sig .tc := ⟨.hbm, 542, rfl⟩
abbrev main_call1_call1_v22 : Ref sig .tc := ⟨.hbm, 543, rfl⟩
abbrev main_call1_call1_v23 : Ref sig .tc := ⟨.hbm, 544, rfl⟩
abbrev main_call1_call1_c_4 : Ref sig .tc := ⟨.hbm, 545, rfl⟩
abbrev main_call1_call1_v24 : Ref sig .tc := ⟨.hbm, 546, rfl⟩
abbrev main_call1_call1_v25 : Ref sig .tc := ⟨.hbm, 547, rfl⟩
abbrev main_call1_call1_c_5 : Ref sig .tc := ⟨.hbm, 548, rfl⟩
abbrev main_call1_call1_v26 : Ref sig .tc := ⟨.hbm, 549, rfl⟩
abbrev main_call1_call1_v27 : Ref sig .tc := ⟨.hbm, 550, rfl⟩
abbrev main_call1_call1_v28 : Ref sig .tc := ⟨.hbm, 551, rfl⟩
abbrev main_call1_call1_v29 : Ref sig .tc := ⟨.hbm, 552, rfl⟩
abbrev main_call1_call1_v30 : Ref sig .tc := ⟨.hbm, 553, rfl⟩
abbrev main_call1_call1_c_6 : Ref sig .tc := ⟨.hbm, 554, rfl⟩
abbrev main_call1_call1_v31 : Ref sig .tc := ⟨.hbm, 555, rfl⟩
abbrev main_call1_call1_v32 : Ref sig .tc := ⟨.hbm, 556, rfl⟩
abbrev main_call1_call1_c_7 : Ref sig .tc := ⟨.hbm, 557, rfl⟩
abbrev main_call1_call1_v33 : Ref sig .tc := ⟨.hbm, 558, rfl⟩
abbrev main_call1_call1_v34 : Ref sig .tc := ⟨.hbm, 559, rfl⟩
abbrev main_call1_call1_v35 : Ref sig .tc := ⟨.hbm, 560, rfl⟩
abbrev main_call1_call1_v36 : Ref sig .tc := ⟨.hbm, 561, rfl⟩
abbrev main_call1_call1_v37 : Ref sig .tc := ⟨.hbm, 562, rfl⟩
abbrev main_call1_call1_v38 : Ref sig .tc := ⟨.hbm, 563, rfl⟩
abbrev main_call1_call1_v39 : Ref sig .tc := ⟨.hbm, 564, rfl⟩
abbrev main_call1_call1_v40 : Ref sig .tc := ⟨.hbm, 565, rfl⟩
abbrev main_call1_call1_c_8 : Ref sig .tc := ⟨.hbm, 566, rfl⟩
abbrev main_call1_call1_v41 : Ref sig .tc := ⟨.hbm, 567, rfl⟩
abbrev main_call1_call1_v42 : Ref sig .tc := ⟨.hbm, 568, rfl⟩
abbrev main_call1_call1_v43 : Ref sig .tc := ⟨.hbm, 569, rfl⟩
abbrev main_call1_call1_c_9 : Ref sig .tc := ⟨.hbm, 570, rfl⟩
abbrev main_call1_call1_v44 : Ref sig .tc := ⟨.hbm, 571, rfl⟩
abbrev main_call1_call1_v45 : Ref sig .tc := ⟨.hbm, 572, rfl⟩
abbrev main_call1_call1_c_10 : Ref sig .tc := ⟨.hbm, 573, rfl⟩
abbrev main_call1_call1_v46 : Ref sig .tc := ⟨.hbm, 574, rfl⟩
abbrev main_call1_call1_v47 : Ref sig .tc := ⟨.hbm, 575, rfl⟩
abbrev main_call1_call1_v48 : Ref sig .tc := ⟨.hbm, 576, rfl⟩
abbrev main_call1_call1_v49 : Ref sig .tc := ⟨.hbm, 577, rfl⟩
abbrev main_call1_call1_v50 : Ref sig .tc := ⟨.hbm, 578, rfl⟩
abbrev main_call1_call1_c_11 : Ref sig .tc := ⟨.hbm, 579, rfl⟩
abbrev main_call1_call1_v51 : Ref sig .tc := ⟨.hbm, 580, rfl⟩
abbrev main_call1_call1_v52 : Ref sig .tc := ⟨.hbm, 581, rfl⟩
abbrev main_call1_call1_c_12 : Ref sig .tc := ⟨.hbm, 582, rfl⟩
abbrev main_call1_call1_v53 : Ref sig .tc := ⟨.hbm, 583, rfl⟩
abbrev main_call1_call1_v54 : Ref sig .tc := ⟨.hbm, 584, rfl⟩
abbrev main_call1_call1_v55 : Ref sig .tc := ⟨.hbm, 585, rfl⟩
abbrev main_call1_call1_v56 : Ref sig .tc := ⟨.hbm, 586, rfl⟩
abbrev main_call1_call1_v57 : Ref sig .tc := ⟨.hbm, 587, rfl⟩
abbrev main_call1_call1_c_13 : Ref sig .tc := ⟨.hbm, 588, rfl⟩
abbrev main_call1_call1_v58 : Ref sig .tc := ⟨.hbm, 589, rfl⟩
abbrev main_call1_call1_v59 : Ref sig .tc := ⟨.hbm, 590, rfl⟩
abbrev main_call1_call1_c_14 : Ref sig .tc := ⟨.hbm, 591, rfl⟩
abbrev main_call1_call1_v60 : Ref sig .tc := ⟨.hbm, 592, rfl⟩
abbrev main_call1_call1_v61 : Ref sig .tc := ⟨.hbm, 593, rfl⟩
abbrev main_call1_call1_v62 : Ref sig .tc := ⟨.hbm, 594, rfl⟩
abbrev main_call1_call1_v63 : Ref sig .tc := ⟨.hbm, 595, rfl⟩
abbrev main_call1_call1_v64 : Ref sig .tc := ⟨.hbm, 596, rfl⟩
abbrev main_call1_call1_c_15 : Ref sig .tc := ⟨.hbm, 597, rfl⟩
abbrev main_call1_call1_v65 : Ref sig .tc := ⟨.hbm, 598, rfl⟩
abbrev main_call1_call1_v66 : Ref sig .tc := ⟨.hbm, 599, rfl⟩
abbrev main_call1_call1_c_16 : Ref sig .tc := ⟨.hbm, 600, rfl⟩
abbrev main_call1_call1_v67 : Ref sig .tc := ⟨.hbm, 601, rfl⟩
abbrev main_call1_call1_v68 : Ref sig .tc := ⟨.hbm, 602, rfl⟩
abbrev main_call1_call1_v69 : Ref sig .tc := ⟨.hbm, 603, rfl⟩
abbrev main_call1_call1_v70 : Ref sig .tc := ⟨.hbm, 604, rfl⟩
abbrev main_call1_call1_v71 : Ref sig .tc := ⟨.hbm, 605, rfl⟩
abbrev main_call1_call1_v72 : Ref sig .tc := ⟨.hbm, 606, rfl⟩
abbrev main_call1_call1_v73 : Ref sig .tc := ⟨.hbm, 607, rfl⟩
abbrev main_call1_call1_v74 : Ref sig .tc := ⟨.hbm, 608, rfl⟩
abbrev main_call1_call1_c_17 : Ref sig .tc := ⟨.hbm, 609, rfl⟩
abbrev main_call1_call1_v75 : Ref sig .tc := ⟨.hbm, 610, rfl⟩
abbrev main_call1_call1_v76 : Ref sig .tc := ⟨.hbm, 611, rfl⟩
abbrev main_call1_call1_v77 : Ref sig .tc := ⟨.hbm, 612, rfl⟩
abbrev main_call1_call1_c_18 : Ref sig .tc := ⟨.hbm, 613, rfl⟩
abbrev main_call1_call1_v78 : Ref sig .tc := ⟨.hbm, 614, rfl⟩
abbrev main_call1_call1_v79 : Ref sig .tc := ⟨.hbm, 615, rfl⟩
abbrev main_call1_call1_c_19 : Ref sig .tc := ⟨.hbm, 616, rfl⟩
abbrev main_call1_call1_v80 : Ref sig .tc := ⟨.hbm, 617, rfl⟩
abbrev main_call1_call1_v81 : Ref sig .tc := ⟨.hbm, 618, rfl⟩
abbrev main_call1_call1_v82 : Ref sig .tc := ⟨.hbm, 619, rfl⟩
abbrev main_call1_call1_v83 : Ref sig .tc := ⟨.hbm, 620, rfl⟩
abbrev main_call1_call1_v84 : Ref sig .tc := ⟨.hbm, 621, rfl⟩
abbrev main_call1_call1_c_20 : Ref sig .tc := ⟨.hbm, 622, rfl⟩
abbrev main_call1_call1_v85 : Ref sig .tc := ⟨.hbm, 623, rfl⟩
abbrev main_call1_call1_v86 : Ref sig .tc := ⟨.hbm, 624, rfl⟩
abbrev main_call1_call1_c_21 : Ref sig .tc := ⟨.hbm, 625, rfl⟩
abbrev main_call1_call1_v87 : Ref sig .tc := ⟨.hbm, 626, rfl⟩
abbrev main_call1_call1_v88 : Ref sig .tc := ⟨.hbm, 627, rfl⟩
abbrev main_call1_call1_v89 : Ref sig .tc := ⟨.hbm, 628, rfl⟩
abbrev main_call1_call1_v90 : Ref sig .tc := ⟨.hbm, 629, rfl⟩
abbrev main_call1_call1_v91 : Ref sig .tc := ⟨.hbm, 630, rfl⟩
abbrev main_call1_call1_c_22 : Ref sig .tc := ⟨.hbm, 631, rfl⟩
abbrev main_call1_call1_v92 : Ref sig .tc := ⟨.hbm, 632, rfl⟩
abbrev main_call1_call1_v93 : Ref sig .tc := ⟨.hbm, 633, rfl⟩
abbrev main_call1_call1_c_23 : Ref sig .tc := ⟨.hbm, 634, rfl⟩
abbrev main_call1_call1_v94 : Ref sig .tc := ⟨.hbm, 635, rfl⟩
abbrev main_call1_call1_v95 : Ref sig .tc := ⟨.hbm, 636, rfl⟩
abbrev main_call1_call1_v96 : Ref sig .tc := ⟨.hbm, 637, rfl⟩
abbrev main_call1_call1_v97 : Ref sig .tc := ⟨.hbm, 638, rfl⟩
abbrev main_call1_call1_v98 : Ref sig .tc := ⟨.hbm, 639, rfl⟩
abbrev main_call1_call1_c_24 : Ref sig .tc := ⟨.hbm, 640, rfl⟩
abbrev main_call1_call1_v99 : Ref sig .tc := ⟨.hbm, 641, rfl⟩
abbrev main_call1_call1_v100 : Ref sig .tc := ⟨.hbm, 642, rfl⟩
abbrev main_call1_call1_c_25 : Ref sig .tc := ⟨.hbm, 643, rfl⟩
abbrev main_call1_call1_v101 : Ref sig .tc := ⟨.hbm, 644, rfl⟩
abbrev main_call1_call1_v102 : Ref sig .tc := ⟨.hbm, 645, rfl⟩
abbrev main_call1_call1_v103 : Ref sig .tc := ⟨.hbm, 646, rfl⟩
abbrev main_call1_call1_v104 : Ref sig .tc := ⟨.hbm, 647, rfl⟩
abbrev main_call1_call1_v105 : Ref sig .tc := ⟨.hbm, 648, rfl⟩
abbrev main_call1_call1_v106 : Ref sig .tc := ⟨.hbm, 649, rfl⟩
abbrev main_call1_call1_v107 : Ref sig .tc := ⟨.hbm, 650, rfl⟩
abbrev main_call1_call1_v108 : Ref sig .tc := ⟨.hbm, 651, rfl⟩
abbrev main_call1_call1_c_26 : Ref sig .tc := ⟨.hbm, 652, rfl⟩
abbrev main_call1_call1_v109 : Ref sig .tc := ⟨.hbm, 653, rfl⟩
abbrev main_call1_call1_v110 : Ref sig .tc := ⟨.hbm, 654, rfl⟩
abbrev main_call1_call1_v111 : Ref sig .tc := ⟨.hbm, 655, rfl⟩
abbrev main_call1_call1_c_27 : Ref sig .tc := ⟨.hbm, 656, rfl⟩
abbrev main_call1_call1_v112 : Ref sig .tc := ⟨.hbm, 657, rfl⟩
abbrev main_call1_call1_v113 : Ref sig .tc := ⟨.hbm, 658, rfl⟩
abbrev main_call1_call1_c_28 : Ref sig .tc := ⟨.hbm, 659, rfl⟩
abbrev main_call1_call1_v114 : Ref sig .tc := ⟨.hbm, 660, rfl⟩
abbrev main_call1_call1_v115 : Ref sig .tc := ⟨.hbm, 661, rfl⟩
abbrev main_call1_call1_v116 : Ref sig .tc := ⟨.hbm, 662, rfl⟩
abbrev main_call1_call1_v117 : Ref sig .tc := ⟨.hbm, 663, rfl⟩
abbrev main_call1_call1_v118 : Ref sig .tc := ⟨.hbm, 664, rfl⟩
abbrev main_call1_call1_c_29 : Ref sig .tc := ⟨.hbm, 665, rfl⟩
abbrev main_call1_call1_v119 : Ref sig .tc := ⟨.hbm, 666, rfl⟩
abbrev main_call1_call1_v120 : Ref sig .tc := ⟨.hbm, 667, rfl⟩
abbrev main_call1_call1_c_30 : Ref sig .tc := ⟨.hbm, 668, rfl⟩
abbrev main_call1_call1_v121 : Ref sig .tc := ⟨.hbm, 669, rfl⟩
abbrev main_call1_call1_v122 : Ref sig .tc := ⟨.hbm, 670, rfl⟩
abbrev main_call1_call1_v123 : Ref sig .tc := ⟨.hbm, 671, rfl⟩
abbrev main_call1_call1_v124 : Ref sig .tc := ⟨.hbm, 672, rfl⟩
abbrev main_call1_call1_v125 : Ref sig .tc := ⟨.hbm, 673, rfl⟩
abbrev main_call1_call1_c_31 : Ref sig .tc := ⟨.hbm, 674, rfl⟩
abbrev main_call1_call1_v126 : Ref sig .tc := ⟨.hbm, 675, rfl⟩
abbrev main_call1_call1_v127 : Ref sig .tc := ⟨.hbm, 676, rfl⟩
abbrev main_call1_call1_c_32 : Ref sig .tc := ⟨.hbm, 677, rfl⟩
abbrev main_call1_call1_v128 : Ref sig .tc := ⟨.hbm, 678, rfl⟩
abbrev main_call1_call1_v129 : Ref sig .tc := ⟨.hbm, 679, rfl⟩
abbrev main_call1_call1_v130 : Ref sig .tc := ⟨.hbm, 680, rfl⟩
abbrev main_call1_call1_v131 : Ref sig .tc := ⟨.hbm, 681, rfl⟩
abbrev main_call1_call1_v132 : Ref sig .tc := ⟨.hbm, 682, rfl⟩
abbrev main_call1_call1_c_33 : Ref sig .tc := ⟨.hbm, 683, rfl⟩
abbrev main_call1_call1_v133 : Ref sig .tc := ⟨.hbm, 684, rfl⟩
abbrev main_call1_call1_v134 : Ref sig .tc := ⟨.hbm, 685, rfl⟩
abbrev main_call1_call1_c_34 : Ref sig .tc := ⟨.hbm, 686, rfl⟩
abbrev main_call1_call1_v135 : Ref sig .tc := ⟨.hbm, 687, rfl⟩
abbrev main_call1_call1_v136 : Ref sig .tc := ⟨.hbm, 688, rfl⟩
abbrev main_call1_call1_v137 : Ref sig .tc := ⟨.hbm, 689, rfl⟩
abbrev main_call1_call1_v138 : Ref sig .tc := ⟨.hbm, 690, rfl⟩
abbrev main_call1_call1_v139 : Ref sig .tc := ⟨.hbm, 691, rfl⟩
abbrev main_call1_call1_v140 : Ref sig .tc := ⟨.hbm, 692, rfl⟩
abbrev main_call1_call1_v141 : Ref sig .tc := ⟨.hbm, 693, rfl⟩
abbrev main_call1_call1_v142 : Ref sig .tc := ⟨.hbm, 694, rfl⟩
abbrev main_call1_call1_c_35 : Ref sig .tc := ⟨.hbm, 695, rfl⟩
abbrev main_call1_call1_v143 : Ref sig .tc := ⟨.hbm, 696, rfl⟩
abbrev main_call1_call1_v144 : Ref sig .tc := ⟨.hbm, 697, rfl⟩
abbrev main_call1_call1_v145 : Ref sig .tc := ⟨.hbm, 698, rfl⟩
abbrev main_call1_call1_c_36 : Ref sig .tc := ⟨.hbm, 699, rfl⟩
abbrev main_call1_call1_v146 : Ref sig .tc := ⟨.hbm, 700, rfl⟩
abbrev main_call1_call1_v147 : Ref sig .tc := ⟨.hbm, 701, rfl⟩
abbrev main_call1_call1_c_37 : Ref sig .tc := ⟨.hbm, 702, rfl⟩
abbrev main_call1_call1_v148 : Ref sig .tc := ⟨.hbm, 703, rfl⟩
abbrev main_call1_call1_v149 : Ref sig .tc := ⟨.hbm, 704, rfl⟩
abbrev main_call1_call1_v150 : Ref sig .tc := ⟨.hbm, 705, rfl⟩
abbrev main_call1_call1_v151 : Ref sig .tc := ⟨.hbm, 706, rfl⟩
abbrev main_call1_call1_v152 : Ref sig .tc := ⟨.hbm, 707, rfl⟩
abbrev main_call1_call1_c_38 : Ref sig .tc := ⟨.hbm, 708, rfl⟩
abbrev main_call1_call1_v153 : Ref sig .tc := ⟨.hbm, 709, rfl⟩
abbrev main_call1_call1_v154 : Ref sig .tc := ⟨.hbm, 710, rfl⟩
abbrev main_call1_call1_c_39 : Ref sig .tc := ⟨.hbm, 711, rfl⟩
abbrev main_call1_call1_v155 : Ref sig .tc := ⟨.hbm, 712, rfl⟩
abbrev main_call1_call1_v156 : Ref sig .tc := ⟨.hbm, 713, rfl⟩
abbrev main_call1_call1_v157 : Ref sig .tc := ⟨.hbm, 714, rfl⟩
abbrev main_call1_call1_v158 : Ref sig .tc := ⟨.hbm, 715, rfl⟩
abbrev main_call1_call1_v159 : Ref sig .tc := ⟨.hbm, 716, rfl⟩
abbrev main_call1_call1_c_40 : Ref sig .tc := ⟨.hbm, 717, rfl⟩
abbrev main_call1_call1_v160 : Ref sig .tc := ⟨.hbm, 718, rfl⟩
abbrev main_call1_call1_v161 : Ref sig .tc := ⟨.hbm, 719, rfl⟩
abbrev main_call1_call1_c_41 : Ref sig .tc := ⟨.hbm, 720, rfl⟩
abbrev main_call1_call1_v162 : Ref sig .tc := ⟨.hbm, 721, rfl⟩
abbrev main_call1_call1_v163 : Ref sig .tc := ⟨.hbm, 722, rfl⟩
abbrev main_call1_call1_v164 : Ref sig .tc := ⟨.hbm, 723, rfl⟩
abbrev main_call1_call1_v165 : Ref sig .tc := ⟨.hbm, 724, rfl⟩
abbrev main_call1_call1_v166 : Ref sig .tc := ⟨.hbm, 725, rfl⟩
abbrev main_call1_call1_c_42 : Ref sig .tc := ⟨.hbm, 726, rfl⟩
abbrev main_call1_call1_v167 : Ref sig .tc := ⟨.hbm, 727, rfl⟩
abbrev main_call1_call1_v168 : Ref sig .tc := ⟨.hbm, 728, rfl⟩
abbrev main_call1_call1_c_43 : Ref sig .tc := ⟨.hbm, 729, rfl⟩
abbrev main_call1_call1_v169 : Ref sig .tc := ⟨.hbm, 730, rfl⟩
abbrev main_call1_call1_v170 : Ref sig .tc := ⟨.hbm, 731, rfl⟩
abbrev main_call1_call1_v171 : Ref sig .tc := ⟨.hbm, 732, rfl⟩
abbrev main_call1_call1_v172 : Ref sig .tc := ⟨.hbm, 733, rfl⟩
abbrev main_call1_call1_v173 : Ref sig .tc := ⟨.hbm, 734, rfl⟩
abbrev main_call1_v20_0 : Ref sig .tc := ⟨.hbm, 735, rfl⟩
abbrev main_call1_call1_v175 : Ref sig .tc := ⟨.hbm, 736, rfl⟩
abbrev main_call1_call1_v176 : Ref sig .tc := ⟨.hbm, 737, rfl⟩
abbrev main_call1_call1_c_44 : Ref sig .tc := ⟨.hbm, 738, rfl⟩
abbrev main_call1_call1_v177 : Ref sig .tc := ⟨.hbm, 739, rfl⟩
abbrev main_call1_v20_1 : Ref sig .tc := ⟨.hbm, 740, rfl⟩
abbrev main_call1_v21 : Ref sig .tc := ⟨.hbm, 741, rfl⟩
abbrev main_call1_v22 : Ref sig .tc := ⟨.hbm, 742, rfl⟩
abbrev main_call1_v23_0 : Ref sig .tc := ⟨.hbm, 743, rfl⟩
abbrev main_v9 : Ref sig .tc := ⟨.hbm, 744, rfl⟩
abbrev main_v10 : Ref sig .tc := ⟨.hbm, 745, rfl⟩
abbrev main_call2_v0 : Ref sig .tc := ⟨.hbm, 746, rfl⟩
abbrev main_call2_v1_0 : Ref sig .tc := ⟨.hbm, 747, rfl⟩
abbrev main_v11 : Ref sig .tc := ⟨.hbm, 748, rfl⟩
abbrev main_v12 : Ref sig .tc := ⟨.hbm, 749, rfl⟩
abbrev main_call3_c : Ref sig .tc := ⟨.hbm, 750, rfl⟩
abbrev main_call3_v0 : Ref sig .tc := ⟨.hbm, 751, rfl⟩
abbrev main_call3_v1 : Ref sig .tc := ⟨.hbm, 752, rfl⟩
abbrev main_call3_c_0 : Ref sig .tc := ⟨.hbm, 753, rfl⟩
abbrev main_call3_v2 : Ref sig .tc := ⟨.hbm, 754, rfl⟩
abbrev main_call3_v3 : Ref sig .tc := ⟨.hbm, 755, rfl⟩
abbrev main_call3_v4 : Ref sig .tc := ⟨.hbm, 756, rfl⟩
abbrev main_call3_c_1 : Ref sig .tc := ⟨.hbm, 757, rfl⟩
abbrev main_call3_c_2 : Ref sig .tc := ⟨.hbm, 758, rfl⟩
abbrev main_call3_v5 : Ref sig .tc := ⟨.hbm, 759, rfl⟩
abbrev main_call3_v6 : Ref sig .tc := ⟨.hbm, 760, rfl⟩
abbrev main_call3_v7 : Ref sig .tc := ⟨.hbm, 761, rfl⟩
abbrev main_call3_v8 : Ref sig .tc := ⟨.hbm, 762, rfl⟩
abbrev main_call3_v9 : Ref sig .tc := ⟨.hbm, 763, rfl⟩
abbrev main_call3_v10 : Ref sig .tc := ⟨.hbm, 764, rfl⟩
abbrev main_call3_c_3 : Ref sig .tc := ⟨.hbm, 765, rfl⟩
abbrev main_call3_v11 : Ref sig .tc := ⟨.hbm, 766, rfl⟩
abbrev main_call3_v12 : Ref sig .tc := ⟨.hbm, 767, rfl⟩
abbrev main_call3_v13 : Ref sig .tc := ⟨.hbm, 768, rfl⟩
abbrev main_call3_cst : Ref sig .tc := ⟨.hbm, 769, rfl⟩
abbrev main_call3_v14 : Ref sig .tc := ⟨.hbm, 770, rfl⟩
abbrev main_v13 : Ref sig .tc := ⟨.hbm, 771, rfl⟩
abbrev main_v14 : Ref sig .tc := ⟨.hbm, 772, rfl⟩

abbrev nD : Nat := 1
abbrev τ : Topo := Topo.v7x

variable {F : FTy → Type} [FloatOps F]
-- ==== Proof.Block.lean ====
/- What one grid point's sixteen products leave in the rows' block. -/
module

public import proofs.«01_k».proof.Proof.Gen.KernelIdeal.Frame
public import proofs.«01_k».proof.Proof.Gen.KernelIdeal.Skeleton
public import Idealize.ShloMosaic.Lib.Pointwise

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- One of the sixteen planes of a block of rows. -/
def plane (x : Vec F S16x192x1024 .f32) (g : Fin 16) : Vec F S1x192x1024 .f32 := fun z => x (ix3 g (z 1) (z 2))

/-- One of the sixteen lists of row numbers. -/
def list (x : Vec F S16x1x256 .i32) (g : Fin 16) : Vec F S1x1x256 .i32 := fun z => x (ix3 g (z 1) (z 2))

/-- The block of products: plane by plane, the plane times its list's selection. -/
def block (x : Vec F S16x192x1024 .f32) (y : Vec F S16x1x256 .i32) : Vec F S16x192x256 .f32 :=
  fun j => k0_pay1 (plane x (j 0)) (list y (j 0)) (ix3 0 (j 1) (j 2))

theorem read_plane {M : Memref sig .tc .vmem S16x192x1024 .f32} (hM : M.IsWhole) (x : Vec F S16x192x1024 .f32) (n : Nat) (hn : n < 16)
    (inb : ∀ a, (![n, 0, 0] : Fin 3 → Nat) a + S1x192x1024.size a ≤ S16x192x1024.size a) :
    View.readAt (Elt F) M.view (Rect.unit (s := S16x192x1024) ![n, 0, 0] S1x192x1024.size inb).toLoadRect (hM.unread x) = plane x ⟨n, hn⟩ := by
  funext z
  refine (congrFun (hM.read_unread x) _).trans (congrArg x (funext fun a => Fin.ext ?_))
  match a with
  | ⟨0, _⟩ => have : (z 0).val < 1 := (z 0).isLt; show n + 1 * (z 0).val = n; omega
  | ⟨1, _⟩ => show 0 + 1 * (z 1).val = (z 1).val; omega
  | ⟨2, _⟩ => show 0 + 1 * (z 2).val = (z 2).val; omega

theorem read_list {M : Memref sig .tc .vmem S16x1x256 .i32} (hM : M.IsWhole) (x : Vec F S16x1x256 .i32) (n : Nat) (hn : n < 16)
    (inb : ∀ a, (![n, 0, 0] : Fin 3 → Nat) a + S1x1x256.size a ≤ S16x1x256.size a) :
    View.readAt (Elt F) M.view (Rect.unit (s := S16x1x256) ![n, 0, 0] S1x1x256.size inb).toLoadRect (hM.unread x) = list x ⟨n, hn⟩ := by
  funext z
  refine (congrFun (hM.read_unread x) _).trans (congrArg x (funext fun a => Fin.ext ?_))
  match a with
  | ⟨0, _⟩ => have : (z 0).val < 1 := (z 0).isLt; show n + 1 * (z 0).val = n; omega
  | ⟨1, _⟩ => show 0 + 1 * (z 1).val = (z 1).val; omega
  | ⟨2, _⟩ => show 0 + 1 * (z 2).val = (z 2).val; omega

/-- One product, stored at its plane, agrees with the block. -/
theorem piece {M : Memref sig .tc .vmem S16x192x1024 .f32} (hM : M.IsWhole) {N : Memref sig .tc .vmem S16x1x256 .i32} (hN : N.IsWhole)
    (x : Vec F S16x192x1024 .f32) (y : Vec F S16x1x256 .i32) (n : Nat) (hn : n < 16)
    (inb : ∀ a, (![n, 0, 0] : Fin 3 → Nat) a + S1x192x1024.size a ≤ S16x192x1024.size a)
    (inb' : ∀ a, (![n, 0, 0] : Fin 3 → Nat) a + S1x1x256.size a ≤ S16x1x256.size a)
    (inb'' : ∀ a, (![n, 0, 0] : Fin 3 → Nat) a + S1x192x256.size a ≤ S16x192x256.size a)
    (z : (Rect.unit (s := S16x192x256) ![n, 0, 0] S1x192x256.size inb'').shape.Idx) :
    k0_pay1 (View.readAt (Elt F) M.view (Rect.unit (s := S16x192x1024) ![n, 0, 0] S1x192x1024.size inb).toLoadRect (hM.unread x))
        (View.readAt (Elt F) N.view (Rect.unit (s := S16x1x256) ![n, 0, 0] S1x1x256.size inb').toLoadRect (hN.unread y)) z
      = block x y ((Rect.unit (s := S16x192x256) ![n, 0, 0] S1x192x256.size inb'').emb z) := by
  rw [read_plane hM x n hn inb, read_list hN y n hn inb']
  have h0 : (Rect.unit (s := S16x192x256) ![n, 0, 0] S1x192x256.size inb'').emb z 0 = (⟨n, hn⟩ : Fin 16) := by
    refine Fin.ext ?_
    have : (z 0).val < 1 := (z 0).isLt
    show n + 1 * (z 0).val = n
    omega
  unfold block
  rw [h0]
  refine congrArg (k0_pay1 (plane x ⟨n, hn⟩) (list y ⟨n, hn⟩)) (funext fun a => Fin.ext ?_)
  match a with
  | ⟨0, _⟩ => have : (z 0).val < 1 := (z 0).isLt; show (z 0).val = 0; omega
  | ⟨1, _⟩ => show (z 1).val = 0 + 1 * (z 1).val; omega
  | ⟨2, _⟩ => show (z 2).val = 0 + 1 * (z 2).val; omega

/-- A table copied whole from one memref to another. -/
theorem copied {M N : Memref sig .tc .vmem S64x1024 .i32} (hM : M.IsWhole) (x : Vec F S64x1024 .i32) (f : N.view.ty.Contents (Elt F))
    (inb inb' : ∀ a, (![0, 0] : Fin 2 → Nat) a + S64x1024.size a ≤ S64x1024.size a) :
    View.read (Elt F) N.view (N.view.writes (Elt F) f [⟨Rect.unit (s := S64x1024) ![0, 0] S64x1024.size inb',
      View.readAt (Elt F) M.view (Rect.unit (s := S64x1024) ![0, 0] S64x1024.size inb).toLoadRect (hM.unread x)⟩]) = x := by
  funext y
  refine View.read_writes_apply_of_pieces _ _ x _ (List.forall_mem_cons.mpr ⟨fun z => ?_, List.forall_mem_nil _⟩) y
    (View.cover_of_tiled _ ![64, 1024] (by rfl) y)
  exact congrFun (hM.read_unread x) _

end Cert.KernelIdeal
end
end
-- ==== Proof.BodyFirst.lean ====
/- The kernel's body at the first point. -/
module

public import proofs.«01_k».proof.Proof.Block

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

set_option maxHeartbeats 1000000 in
/-- At the first point the body leaves the block of products and copies the two tables. -/
theorem body_first (c : Dev nD) (i : grid0.Coords) (arg1 : Memref sig .tc .vmem S16x192x1024 .f32) (harg1 : arg1.IsWhole) (arg2 : Memref sig .tc .vmem S16x1x256 .i32) (harg2 : arg2.IsWhole) (arg3 : Memref sig .tc .vmem S64x1024 .i32) (harg3 : arg3.IsWhole) (arg4 : Memref sig .tc .vmem S64x1024 .i32) (harg4 : arg4.IsWhole) (arg5 : Memref sig .tc .vmem S16x192x256 .f32) (harg5 : arg5.IsWhole) (arg6 : Memref sig .tc .vmem S64x1024 .i32) (harg6 : arg6.IsWhole) (arg7 : Memref sig .tc .vmem S64x1024 .i32) (harg7 : arg7.IsWhole) (hc0 : k0_cond1 i = 1#1)
    (x0 : Vec F S16x192x1024 .f32) (x1 : Vec F S16x1x256 .i32) (x2 : Vec F S64x1024 .i32) (x3 : Vec F S64x1024 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (block x0 x1) ∗ owns (c : Thread nD τ) arg6 fullShare x2 ∗ owns (c : Thread nD τ) arg7 fullShare x3) -∗ K ⟨⟩))
          ⊢ wp frame (wpE (defs₀ (F := F)) Variants.none c none) E (cc0__mm_body i arg1 harg1 arg2 harg2 arg3 harg3 arg4 harg4 arg5 harg5 arg6 harg6 arg7 harg7) K := by
    intro E K
    simp only [cc0__mm_body_eq_skeleton]; unfold cc0__mm_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      funext y
      refine View.read_writes_apply_of_pieces _ _ (block x0 x1) _ ?_ y (View.cover_of_tiled _ ![1, 192, 256] ?_ y)
      swap; · rfl
      iterate 16 refine List.forall_mem_cons.mpr ⟨fun z => piece harg1 harg2 x0 x1 _ (by decide) (by decide) (by decide) (by decide) z, ?_⟩
      exact List.forall_mem_nil _
    isplitl [H5]
    · iexists _; isplitr; swap; · iexact H5
      ipureintro
      exact copied harg3 x2 _ _ _
    iexists _; isplitr; swap; · iexact H6
    ipureintro
    exact copied harg4 x3 _ _ _

end Cert.KernelIdeal
end
end
-- ==== Proof.BodyLater.lean ====
/- The kernel's body at a point after the first. -/
module

public import proofs.«01_k».proof.Proof.Block

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

set_option maxHeartbeats 1000000 in
/-- At a point after the first the body leaves the block of products and touches neither table. -/
theorem body_later (c : Dev nD) (i : grid0.Coords) (arg1 : Memref sig .tc .vmem S16x192x1024 .f32) (harg1 : arg1.IsWhole) (arg2 : Memref sig .tc .vmem S16x1x256 .i32) (harg2 : arg2.IsWhole) (arg3 : Memref sig .tc .vmem S64x1024 .i32) (harg3 : arg3.IsWhole) (arg4 : Memref sig .tc .vmem S64x1024 .i32) (harg4 : arg4.IsWhole) (arg5 : Memref sig .tc .vmem S16x192x256 .f32) (harg5 : arg5.IsWhole) (arg6 : Memref sig .tc .vmem S64x1024 .i32) (harg6 : arg6.IsWhole) (arg7 : Memref sig .tc .vmem S64x1024 .i32) (harg7 : arg7.IsWhole) (hc0 : ¬k0_cond1 i = 1#1)
    (x0 : Vec F S16x192x1024 .f32) (x1 : Vec F S16x1x256 .i32) (x2 : Vec F S64x1024 .i32) (x3 : Vec F S64x1024 .i32) (x5 : Vec F S64x1024 .i32) (x6 : Vec F S64x1024 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (block x0 x1) ∗ owns (c : Thread nD τ) arg6 fullShare x5 ∗ owns (c : Thread nD τ) arg7 fullShare x6) -∗ K ⟨⟩))
          ⊢ wp frame (wpE (defs₀ (F := F)) Variants.none c none) E (cc0__mm_body i arg1 harg1 arg2 harg2 arg3 harg3 arg4 harg4 arg5 harg5 arg6 harg6 arg7 harg7) K := by
    intro E K
    simp only [cc0__mm_body_eq_skeleton]; unfold cc0__mm_body_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      funext y
      refine View.read_writes_apply_of_pieces _ _ (block x0 x1) _ ?_ y (View.cover_of_tiled _ ![1, 192, 256] ?_ y)
      swap; · rfl
      iterate 16 refine List.forall_mem_cons.mpr ⟨fun z => piece harg1 harg2 x0 x1 _ (by decide) (by decide) (by decide) (by decide) z, ?_⟩
      exact List.forall_mem_nil _
    isplitl [H5]
    · iexists _; isplitr; swap; · iexact H5
      ipureintro; exact hf5
    iexists _; isplitr; swap; · iexact H6
    ipureintro; exact hf6

end Cert.KernelIdeal
end
end
-- ==== Proof.KernelRun.lean ====
/- The kernel's run: what the body leaves at each grid point, and what the run leaves in the arrays. -/
module

public import proofs.«01_k».proof.Proof.BodyFirst
public import proofs.«01_k».proof.Proof.BodyLater
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem copies_iff : ∀ t : Fin cfg0.N, k0_cond1 (grid0.coords t) = 1#1 ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond1, e0]
    word_cmp
   : ∀ t : Fin grid0.N, k0_cond1 (grid0.coords t) = 1#1 ↔ t.val % 4 = 0)

/-- The first grid point. -/
def start : Fin cfg0.N := ⟨0, by rw [show cfg0.N = 4 from N_0]; decide⟩

/-- What each window's staging buffer holds after each point: the inputs their blocks, the rows their products, the two
    table outputs the tables from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (iblk m c 0 t) (iblk m c 1 t)
    | ⟨5, _⟩ => iblk m c 2 start
    | ⟨6, _⟩ => iblk m c 3 start
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block (iblk m c 0 t) (iblk m c 1 t) := by dsimp only [dats]
theorem after_5 (c : Dev nD) (t : Fin cfg0.N) : (dats m 0 c).after 5 t = iblk m c 2 start := by dsimp only [dats]
theorem after_6 (c : Dev nD) (t : Fin cfg0.N) : (dats m 0 c).after 6 t = iblk m c 3 start := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem live_first_5 (t : Fin cfg0.N) (h : t.val % 4 = 0) : cfg0.idle 5 (grid0.coords t) = false := by
  show (!(k0_cond1 (grid0.coords t) == 1#1)) = false
  rw [(copies_iff t).mpr h]; rfl
theorem live_first_6 (t : Fin cfg0.N) (h : t.val % 4 = 0) : cfg0.idle 6 (grid0.coords t) = false := by
  show (!(k0_cond1 (grid0.coords t) == 1#1)) = false
  rw [(copies_iff t).mpr h]; rfl
theorem idle_later_5 (t : Fin cfg0.N) (h : ¬t.val % 4 = 0) : cfg0.idle 5 (grid0.coords t) = true := by
  show (!(k0_cond1 (grid0.coords t) == 1#1)) = true
  rw [Bool.not_eq_true', beq_eq_false_iff_ne]
  exact fun e => h ((copies_iff t).mp e)
theorem idle_later_6 (t : Fin cfg0.N) (h : ¬t.val % 4 = 0) : cfg0.idle 6 (grid0.coords t) = true := by
  show (!(k0_cond1 (grid0.coords t) == 1#1)) = true
  rw [Bool.not_eq_true', beq_eq_false_iff_ne]
  exact fun e => h ((copies_iff t).mp e)

/-- An output window whose buffer the first point fills and no later point touches finds what the first point left. -/
theorem found_later (c : Dev nD) (w : Fin cfg0.W) (hw : (cfg0.win w).isOut = true)
    (hfl : ∀ t : Fin cfg0.N, (cfg0.win w).flush t = true ↔ t.val % 4 = 3)
    (h0 : ∀ t : Fin cfg0.N, t.val % 4 = 0 → cfg0.idle w (grid0.coords t) = false)
    (h1 : ∀ t : Fin cfg0.N, ¬t.val % 4 = 0 → cfg0.idle w (grid0.coords t) = true)
    (hk : ∀ t d, (dats m 0 c).kept w t d = (dats m 0 c).after w t)
    (X) (hX : ∀ t, (dats m 0 c).after w t = X) (d) :
    ∀ n (t : Fin cfg0.N), t.val = n + 1 → (dats m 0 c).before w t d = X := by
  intro n
  induction n with
  | zero =>
    intro t ht
    rw [(dats m 0 c).before_of_pos w t (by omega) ((cfg0.win w).fetch_out hw t), if_neg (fun h => by have := (hfl _).mp h; dsimp only at this; omega)]
    unfold Dat.left
    rw [show cfg0.idle w (cfg0.grid.coords _) = false from h0 _ (by dsimp only; omega)]
    exact (hk _ _).trans (hX _)
  | succ n ih =>
    intro t ht
    have hN : t.val < 4 := lt_of_lt_of_eq t.isLt (show cfg0.N = 4 from N_0)
    rw [(dats m 0 c).before_of_pos w t (by omega) ((cfg0.win w).fetch_out hw t), if_neg (fun h => by have := (hfl _).mp h; dsimp only at this; omega)]
    unfold Dat.left
    rw [show cfg0.idle w (cfg0.grid.coords _) = true from h1 _ (by dsimp only; omega)]
    exact ih _ (by dsimp only; omega)

theorem before_5 (c : Dev nD) (t : Fin cfg0.N) (h : ¬t.val % 4 = 0) (d) : (dats m 0 c).before 5 t d = iblk m c 2 start :=
  found_later m c 5 rfl flush0_5 live_first_5 idle_later_5 (fun _ _ => rfl) _ (after_5 m c) d (t.val - 1) t (by omega)
theorem before_6 (c : Dev nD) (t : Fin cfg0.N) (h : ¬t.val % 4 = 0) (d) : (dats m 0 c).before 6 t d = iblk m c 3 start :=
  found_later m c 6 rfl flush0_6 live_first_6 idle_later_6 (fun _ _ => rfl) _ (after_6 m c) d (t.val - 1) t (by omega)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- At a point the body skips a window, handing back what it found is what is asked. -/
theorem leaves_skipped (c : Dev nD) (w : Fin cfg0.W) (t : Fin cfg0.N) (h : cfg0.idle w (grid0.coords t) = true)
    (X) (hb : ∀ d, (dats m 0 c).before w t d = X) (ha : (dats m 0 c).after w t = X) :
    owns (c : Thread nD τ) ((cfg0.win w).stage (cfg0.slots t w)) fullShare X ⊢ ((dats m 0 c).leavesExact w t : sProp 𝕄) := by
  unfold Dat.leavesExact
  rw [show cfg0.idle w (cfg0.grid.coords t) = true from h]
  cases (cfg0.win w).flush t with
  | true => rw [ha]
  | false =>
    iintro H
    iexists X
    rw [hb X]
    iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  have hN : t.val < 4 := lt_of_lt_of_eq t.isLt (show cfg0.N = 4 from N_0)
  rw [leaves_live m c 0 t rfl, leaves_live m c 1 t rfl, leaves_live m c 2 t rfl, leaves_live m c 3 t rfl, leaves_live m c 4 t rfl,
    after_0, after_1, after_2, after_3, after_4]
  by_cases h0 : t.val % 4 = 0
  · obtain rfl : t = start := Fin.ext (by show t.val = 0; omega)
    rw [leaves_live m c 5 _ (live_first_5 _ h0), leaves_live m c 6 _ (live_first_6 _ h0), after_5, after_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((body_first c (grid0.coords start) _ _ _ _ _ _ _ _ _ _ _ _ _ _ ((copies_iff start).mpr h0) (iblk m c 0 start) (iblk m c 1 start) (iblk m c 2 start) (iblk m c 3 start)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_5 m c t h0, before_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((body_later c (grid0.coords t) _ _ _ _ _ _ _ _ _ _ _ _ _ _ (fun h => h0 ((copies_iff t).mp h)) (iblk m c 0 t) (iblk m c 1 t) (iblk m c 2 t) (iblk m c 3 t)
      (iblk m c 2 start) (iblk m c 3 start)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_skipped m c 5 t (idle_later_5 t h0) _ (before_5 m c t h0) (after_5 m c t)); iexact H5
    iapply (leaves_skipped m c 6 t (idle_later_6 t h0) _ (before_6 m c t h0) (after_6 m c t)); iexact H6

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: every array as the write-backs leave it, every other buffer as the last host lines leave it, every counter at zero. -/
theorem ran : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The kernel runs, its argument unchanged and its counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (ran m ρ)))
    ((θ_run defs _ _).mono (fun _ h => h.2) (ran m ρ))

end Cert.KernelIdeal
end
end
-- ==== Proof.Same.lean ====
/- The kernel and the idealized kernel are one program, so one frame serves both. -/
module

public import proofs.«01_k».proof.Defs
public import proofs.«01_k».proof.Proof.Gen.Kernel
public import proofs.«01_k».proof.Proof.KernelRun

@[expose] public section

set_option maxRecDepth 65536

namespace Cert.Same

open Idealize.ShloMosaic Idealize.SL.Sem

variable {F : FTy → Type} [FloatOps F]

attribute [local instance] Cert.Kernel.Gen.facts Cert.KernelIdeal.Gen.facts

/-- The three constant tables are the same. -/
theorem table_0 : Cert.Kernel.lit0t = Cert.KernelIdeal.lit0t := rfl
theorem table_1 : Cert.Kernel.lit1t = Cert.KernelIdeal.lit1t := rfl
theorem table_2 : Cert.Kernel.lit2t = Cert.KernelIdeal.lit2t := rfl

/-- The bodies that the labels name are the same. -/
theorem bodies : Cert.Kernel.defs₀ (F := F) = Cert.KernelIdeal.defs₀ (F := F) := by
  refine congrArg Defs.onTc ?_
  funext l x
  match l, x with
  | ⟨0, _⟩, (t, s) => exact rfl
  | ⟨_ + 1, h⟩, _ => exact absurd h (Nat.not_lt.2 (Nat.le_add_left _ _))

theorem labels : Cert.Kernel.defs (F := F) = Cert.KernelIdeal.defs (F := F) := congrArg (Pipeline.defs _) bodies

/-- The host programs are the same. -/
theorem host : Cert.Kernel.main (F := F) = Cert.KernelIdeal.main (F := F) := by
  unfold Cert.Kernel.main Cert.KernelIdeal.main Cert.Kernel.lit0 Cert.Kernel.lit1 Cert.Kernel.lit2
    Cert.KernelIdeal.lit0 Cert.KernelIdeal.lit1 Cert.KernelIdeal.lit2
  rw [table_0, table_1, table_2]
  generalize Cert.KernelIdeal.lit0t = x
  generalize Cert.KernelIdeal.lit1t = y
  generalize Cert.KernelIdeal.lit2t = z
  rfl

/-- The frame of the kernel, from the run of the idealized one over float words. -/
theorem frame : Cert.quiescent_Kernel := by
  intro m g _
  have h := Cert.KernelIdeal.framed (F := Bits) m g
  rw [← labels, ← host] at h
  exact h

end Cert.Same
end
-- ==== Proof.OneHot.lean ====
/- A product with columns of ones and zeros takes the columns that the ones stand at. -/
module

public import proofs.«01_k».proof.Proof.Block
public import Idealize.ShloMosaic.PureOps.Ideal
public import Idealize.ShloMosaic.Lib.Pointwise

@[expose] public section

set_option maxRecDepth 16384

noncomputable section

namespace Cert.KernelIdeal

open Idealize.ShloMosaic Idealize.ShloMosaic.TcCoe Idealize.ShloMosaic.Tactic
open Gen

/-- Two row numbers compared, as a number: one if they agree and zero if not. -/
theorem mark (v n : Fin 1024) :
    (FloatOps.sitofp FTy.f32 (BitVec.setWidth 32 (IntOp.cmpi CmpIPredicate.eq (BitVec.ofNat 32 v) (BitVec.ofNat 32 n))) : Ideal .f32)
      = if v = n then 1 else 0 := by
  have hv : (BitVec.ofNat 32 v = BitVec.ofNat 32 n) ↔ v = n := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  by_cases h : v = n
  · subst h
    have e : BitVec.setWidth 32 (IntOp.cmpi CmpIPredicate.eq (BitVec.ofNat 32 v) (BitVec.ofNat 32 v)) = 1#32 := by simp [IntOp.cmpi]
    rw [e, if_pos rfl]
    show (((1#32).toInt : ℝ) : EReal) = 1
    have : (1#32).toInt = 1 := by decide
    rw [this]; simp
  · have ne : (BitVec.ofNat 32 v == BitVec.ofNat 32 n) = false := by
      rw [beq_eq_false_iff_ne]; exact fun e => h (hv.1 e)
    have e : BitVec.setWidth 32 (IntOp.cmpi CmpIPredicate.eq (BitVec.ofNat 32 v) (BitVec.ofNat 32 n)) = 0#32 := by
      show BitVec.setWidth 32 (BitVec.ofBool _) = _
      rw [ne]; rfl
    rw [e, if_neg h]
    show (((0#32).toInt : ℝ) : EReal) = 0
    have : (0#32).toInt = 0 := by decide
    rw [this]; simp

/-- The product at one place: what the plane holds in the column that the list names there. -/
theorem product (x : Vec Ideal S1x192x1024 .f32) (y : Vec Ideal S1x1x256 .i32) (r : Fin 192) (i : Fin 256) (n : Fin 1024)
    (hn : (y (ix3 0 0 i) : BitVec 32) = BitVec.ofNat 32 n) : k0_pay1 x y (ix3 0 r i) = x (ix3 0 r n) := by
  pointwise [k0_pay1]
  rw [hn, Finset.sum_eq_single n]
  · rw [mark, if_pos rfl, mul_one]
  · intro v _ hv
    rw [mark, if_neg hv, mul_zero]
  · exact fun h => absurd (Finset.mem_univ _) h

end Cert.KernelIdeal
-- ==== Proof.Threefry.lean ====
/- The threefry-2x32 block function: on vectors as the reference program computes it, on single words, and on
   natural numbers as it is evaluated. -/
module

public import Idealize.ShloMosaic.PureOps

@[expose] public section

namespace Cert.Threefry

open Idealize.ShloMosaic

/-! ## On words -/

/-- One round: add, rotate by `r` (the right half by `q = 32 - r`), xor. -/
def rnd (r q : Nat) (p : BitVec 32 × BitVec 32) : BitVec 32 × BitVec 32 :=
  (IntOp.addi p.1 p.2, IntOp.xori (IntOp.addi p.1 p.2)
    (IntOp.ori (IntOp.shli .host p.2 (BitVec.ofNat 32 r)) (IntOp.shrui .host p.2 (BitVec.ofNat 32 q))))

/-- The first key addition. -/
def inj₀ (c d : BitVec 32) (p : BitVec 32 × BitVec 32) : BitVec 32 × BitVec 32 := (IntOp.addi p.1 c, IntOp.addi p.2 d)

/-- The later key additions. -/
def inj (c d : BitVec 32) (e : Nat) (p : BitVec 32 × BitVec 32) : BitVec 32 × BitVec 32 :=
  (IntOp.addi p.1 c, IntOp.addi (IntOp.addi p.2 d) (BitVec.ofNat 32 e))

/-- Four rounds of the first kind. -/
def ev (p : BitVec 32 × BitVec 32) : BitVec 32 × BitVec 32 := rnd 6 26 (rnd 26 6 (rnd 15 17 (rnd 13 19 p)))

/-- Four rounds of the second kind. -/
def od (p : BitVec 32 × BitVec 32) : BitVec 32 × BitVec 32 := rnd 24 8 (rnd 16 16 (rnd 29 3 (rnd 17 15 p)))

/-- The block function under the three key words. -/
def block (k0 k1 k2 : BitVec 32) (p : BitVec 32 × BitVec 32) : BitVec 32 × BitVec 32 :=
  inj k2 k0 5 (ev (inj k1 k2 4 (od (inj k0 k1 3 (ev (inj k2 k0 2 (od (inj k1 k2 1 (ev (inj₀ k0 k1 p))))))))))

/-- The third key word. -/
def key2 (k0 k1 : BitVec 32) : BitVec 32 := IntOp.xori (IntOp.xori k0 k1) 466688986#32

/-- The function: the key's two words, then the pair it hashes. -/
def tf (k p : BitVec 32 × BitVec 32) : BitVec 32 × BitVec 32 := block k.1 k.2 (key2 k.1 k.2) p

/-- The low word of a counter. -/
theorem lo_word (n : Nat) : BitVec.setWidth 32 (IntOp.muli 1#64 (BitVec.ofNat 64 n)) = BitVec.ofNat 32 n := by
  apply BitVec.eq_of_toNat_eq
  simp only [IntOp.muli, BitVec.one_mul, BitVec.toNat_setWidth, BitVec.toNat_ofNat]
  omega

/-- The high word of a counter. -/
theorem hi_word (n : Nat) (h : n < 4294967296) :
    BitVec.setWidth 32 (IntOp.shrui .host (IntOp.muli 1#64 (BitVec.ofNat 64 n)) 32#64) = 0#32 := by
  apply BitVec.eq_of_toNat_eq
  have h' : n % 18446744073709551616 / 4294967296 = 0 := by omega
  simp [IntOp.shrui, IntOp.muli, Nat.shiftRight_eq_div_pow, h']

/-! ## On vectors -/

section Vec

variable {s : Shape}

/-- `rnd`, elementwise. -/
def rndV (r q : Nat) (p : IVec s 32 × IVec s 32) : IVec s 32 × IVec s 32 :=
  (addi p.1 p.2, xori (addi p.1 p.2)
    (ori (Host.shli p.2 (constantI s 32 (BitVec.ofNat 32 r))) (Host.shrui p.2 (constantI s 32 (BitVec.ofNat 32 q)))))

/-- `inj₀`, elementwise. -/
def inj₀V (c d : IVec s 32) (p : IVec s 32 × IVec s 32) : IVec s 32 × IVec s 32 := (addi p.1 c, addi p.2 d)

/-- `inj`, elementwise. -/
def injV (c d : IVec s 32) (e : Nat) (p : IVec s 32 × IVec s 32) : IVec s 32 × IVec s 32 :=
  (addi p.1 c, addi (addi p.2 d) (constantI s 32 (BitVec.ofNat 32 e)))

/-- `block`, elementwise. -/
def blockV (k0 k1 k2 : IVec s 32) (p : IVec s 32 × IVec s 32) : IVec s 32 × IVec s 32 :=
  injV k2 k0 5 (rndV 6 26 (rndV 26 6 (rndV 15 17 (rndV 13 19
  (injV k1 k2 4 (rndV 24 8 (rndV 16 16 (rndV 29 3 (rndV 17 15
  (injV k0 k1 3 (rndV 6 26 (rndV 26 6 (rndV 15 17 (rndV 13 19
  (injV k2 k0 2 (rndV 24 8 (rndV 16 16 (rndV 29 3 (rndV 17 15
  (injV k1 k2 1 (rndV 6 26 (rndV 26 6 (rndV 15 17 (rndV 13 19 (inj₀V k0 k1 p)))))))))))))))))))))))))

/-- A pair of vectors at an index. -/
def at' (i : s.Idx) (p : IVec s 32 × IVec s 32) : BitVec 32 × BitVec 32 := (p.1 i, p.2 i)

theorem at_rndV (i : s.Idx) (r q : Nat) (p : IVec s 32 × IVec s 32) : at' i (rndV r q p) = rnd r q (at' i p) := rfl
theorem at_inj₀V (i : s.Idx) (c d : IVec s 32) (p : IVec s 32 × IVec s 32) : at' i (inj₀V c d p) = inj₀ (c i) (d i) (at' i p) := rfl
theorem at_injV (i : s.Idx) (c d : IVec s 32) (e : Nat) (p : IVec s 32 × IVec s 32) :
    at' i (injV c d e p) = inj (c i) (d i) e (at' i p) := rfl

theorem at_blockV (i : s.Idx) (k0 k1 k2 : IVec s 32) (p : IVec s 32 × IVec s 32) :
    at' i (blockV k0 k1 k2 p) = block (k0 i) (k1 i) (k2 i) (at' i p) := by
  simp only [blockV, block, ev, od, at_rndV, at_inj₀V, at_injV]

/-! The rounds on a literal pair, one equation each. -/

theorem rndV_mk (r q : Nat) (a b : IVec s 32) : rndV r q (a, b) = (addi a b, xori (addi a b)
    (ori (Host.shli b (constantI s 32 (BitVec.ofNat 32 r))) (Host.shrui b (constantI s 32 (BitVec.ofNat 32 q))))) := rfl
theorem inj₀V_mk (c d a b : IVec s 32) : inj₀V c d (a, b) = (addi a c, addi b d) := rfl
theorem injV_mk (c d : IVec s 32) (e : Nat) (a b : IVec s 32) :
    injV c d e (a, b) = (addi a c, addi (addi b d) (constantI s 32 (BitVec.ofNat 32 e))) := rfl

end Vec

/-! ## On natural numbers

Each step first evaluates its result to a literal (`force`), then goes on with it. -/

section Numbers

variable {α : Type}

/-- `k n`, with `n` evaluated before `k` is entered. -/
def force (n : Nat) (k : Nat → α) : α := Nat.rec (k 0) (fun m _ => k (Nat.succ m)) n

theorem force_eq (n : Nat) (k : Nat → α) : force n k = k n := by cases n <;> rfl

/-- `rnd`, then `k`. -/
def rndN (r q a b : Nat) (k : Nat → Nat → α) : α :=
  force (Nat.mod (Nat.add a b) 4294967296) fun a' =>
  force (Nat.xor a' (Nat.lor (Nat.mod (Nat.shiftLeft b r) 4294967296) (Nat.shiftRight b q))) fun b' => k a' b'

/-- `inj`, then `k`. -/
def injN (c d e a b : Nat) (k : Nat → Nat → α) : α :=
  force (Nat.mod (Nat.add a c) 4294967296) fun a' =>
  force (Nat.mod (Nat.add (Nat.add b d) e) 4294967296) fun b' => k a' b'

/-- `ev`, then `k`. -/
def evN (a b : Nat) (k : Nat → Nat → α) : α :=
  rndN 13 19 a b fun a b => rndN 15 17 a b fun a b => rndN 26 6 a b fun a b => rndN 6 26 a b k

/-- `od`, then `k`. -/
def odN (a b : Nat) (k : Nat → Nat → α) : α :=
  rndN 17 15 a b fun a b => rndN 29 3 a b fun a b => rndN 16 16 a b fun a b => rndN 24 8 a b k

/-- `block` with the third key word found from the first two, then `k`. -/
def blockN (k0 k1 a b : Nat) (k : Nat → Nat → α) : α :=
  force (Nat.xor (Nat.xor k0 k1) 466688986) fun k2 =>
  injN k0 k1 0 a b fun a b => evN a b fun a b =>
  injN k1 k2 1 a b fun a b => odN a b fun a b =>
  injN k2 k0 2 a b fun a b => evN a b fun a b =>
  injN k0 k1 3 a b fun a b => odN a b fun a b =>
  injN k1 k2 4 a b fun a b => evN a b fun a b =>
  injN k2 k0 5 a b k

theorem rndN_eq (r q : Nat) (hr : r < 32) (hq : q < 32) (p : BitVec 32 × BitVec 32) (k : Nat → Nat → α) :
    rndN r q p.1.toNat p.2.toNat k = k (rnd r q p).1.toNat (rnd r q p).2.toNat := by
  obtain ⟨a, b⟩ := p
  have hr' : (BitVec.ofNat 32 r).toNat = r := by rw [BitVec.toNat_ofNat]; omega
  have hq' : (BitVec.ofNat 32 q).toNat = q := by rw [BitVec.toNat_ofNat]; omega
  unfold rndN rnd
  rw [force_eq, force_eq]
  have h1 : Nat.mod (Nat.add a.toNat b.toNat) 4294967296 = (a + b).toNat := (BitVec.toNat_add a b).symm
  have h2 : Nat.mod (Nat.shiftLeft b.toNat r) 4294967296 = (b <<< r).toNat := (BitVec.toNat_shiftLeft).symm
  have h3 : Nat.shiftRight b.toNat q = (b >>> q).toNat := (BitVec.toNat_ushiftRight b q).symm
  rw [h1, h2, h3]
  simp only [IntOp.addi, IntOp.xori, IntOp.ori, IntOp.shli, IntOp.shrui, hr', hq', hr, hq, if_true, BitVec.shiftLeft_eq',
    BitVec.ushiftRight_eq', BitVec.toNat_xor, BitVec.toNat_or]
  rfl

theorem injN_eq (c d : BitVec 32) (e : Nat) (p : BitVec 32 × BitVec 32) (k : Nat → Nat → α) :
    injN c.toNat d.toNat e p.1.toNat p.2.toNat k = k (inj c d e p).1.toNat (inj c d e p).2.toNat := by
  obtain ⟨a, b⟩ := p
  unfold injN inj
  rw [force_eq, force_eq]
  simp only [IntOp.addi, BitVec.toNat_add, BitVec.toNat_ofNat, Nat.reducePow, Nat.add_mod_mod, Nat.mod_add_mod]
  rfl

theorem injN_eq₀ (c d : BitVec 32) (p : BitVec 32 × BitVec 32) (k : Nat → Nat → α) :
    injN c.toNat d.toNat 0 p.1.toNat p.2.toNat k = k (inj₀ c d p).1.toNat (inj₀ c d p).2.toNat := by
  rw [injN_eq]
  have : inj c d 0 p = inj₀ c d p := by
    unfold inj inj₀ IntOp.addi
    simp
  rw [this]

theorem evN_eq (p : BitVec 32 × BitVec 32) (k : Nat → Nat → α) : evN p.1.toNat p.2.toNat k = k (ev p).1.toNat (ev p).2.toNat := by
  unfold evN ev
  rw [rndN_eq _ _ (by decide) (by decide), rndN_eq _ _ (by decide) (by decide), rndN_eq _ _ (by decide) (by decide),
    rndN_eq _ _ (by decide) (by decide)]

theorem odN_eq (p : BitVec 32 × BitVec 32) (k : Nat → Nat → α) : odN p.1.toNat p.2.toNat k = k (od p).1.toNat (od p).2.toNat := by
  unfold odN od
  rw [rndN_eq _ _ (by decide) (by decide), rndN_eq _ _ (by decide) (by decide), rndN_eq _ _ (by decide) (by decide),
    rndN_eq _ _ (by decide) (by decide)]

/-- The evaluation computes the block function. -/
theorem blockN_eq (k0 k1 : BitVec 32) (p : BitVec 32 × BitVec 32) (k : Nat → Nat → α) :
    blockN k0.toNat k1.toNat p.1.toNat p.2.toNat k
      = k (block k0 k1 (key2 k0 k1) p).1.toNat (block k0 k1 (key2 k0 k1) p).2.toNat := by
  have hk : Nat.xor (Nat.xor k0.toNat k1.toNat) 466688986 = (key2 k0 k1).toNat := by
    simp only [key2, IntOp.xori, BitVec.toNat_xor]
    rfl
  unfold blockN block
  rw [hk, force_eq, injN_eq₀, evN_eq, injN_eq, odN_eq, injN_eq, evN_eq, injN_eq, odN_eq, injN_eq, evN_eq, injN_eq]

end Numbers

end Cert.Threefry
end
-- ==== Proof.Check.lean ====
/- A check of one column's tables against the threefry keys, and what it shows. -/
module

public import proofs.«01_k».proof.Proof.Threefry

@[expose] public section

namespace Cert.Check

open Idealize.ShloMosaic Cert.Threefry

/-- The sort key of row `v` under a column's second key. -/
def sortKey (s : BitVec 32 × BitVec 32) (v : Nat) : Nat :=
  (IntOp.xori (tf s (0#32, BitVec.ofNat 32 v)).1 (tf s (0#32, BitVec.ofNat 32 v)).2).toNat

/-- The second key of column `b`. -/
def subkey (b : Nat) : BitVec 32 × BitVec 32 := tf (tf (0#32, 42#32) (0#32, BitVec.ofNat 32 b)) (0#32, 1#32)

/-- Places `t`, `t + 1`, …, `n` of them: the rows `F` names there are in range, their keys increase from `p`, `I` leads
    back from them, and `C` agrees with `F` at the first 256. -/
def places (F I C : Nat → Nat) (s0 s1 : Nat) (n : Nat) : Nat → Nat → Bool :=
  Nat.rec (fun _ _ => true)
    (fun _ next t p => force (F t) fun v =>
      bif Nat.blt v 1024 && (Nat.beq (I v) t && (bif Nat.blt t 256 then Nat.beq (C t) v else true)) then
        blockN s0 s1 0 v fun x y => force (Nat.xor x y) fun k =>
          bif Nat.ble p k then force (Nat.succ t) fun t' => force (Nat.succ k) fun p' => next t' p' else false
      else false) n

/-- Column `b`'s check. -/
def column (F I C : Nat → Nat) (b : Nat) : Bool :=
  blockN 0 42 0 b fun a0 a1 => blockN a0 a1 0 1 fun s0 s1 => places F I C s0 s1 1024 0 0

/-- What is shown of a place. -/
structure Place (F I C : Nat → Nat) (s : BitVec 32 × BitVec 32) (t : Nat) : Prop where
  lt : F t < 1024
  inv : I (F t) = t
  head : t < 256 → C t = F t

theorem places_sound (F I C : Nat → Nat) (s : BitVec 32 × BitVec 32) (n : Nat) : ∀ t p, places F I C s.1.toNat s.2.toNat n t p = true →
    (∀ i, i < n → Place F I C s (t + i) ∧ p ≤ sortKey s (F (t + i)))
    ∧ ∀ i j, i < j → j < n → sortKey s (F (t + i)) < sortKey s (F (t + j)) := by
  induction n with
  | zero => exact fun t p _ => ⟨fun i h => absurd h (Nat.not_lt_zero i), fun i j _ h => absurd h (Nat.not_lt_zero j)⟩
  | succ n ih =>
    intro t p h
    have h' : (force (F t) fun v =>
      bif Nat.blt v 1024 && (Nat.beq (I v) t && (bif Nat.blt t 256 then Nat.beq (C t) v else true)) then
        blockN s.1.toNat s.2.toNat 0 v fun x y => force (Nat.xor x y) fun k =>
          bif Nat.ble p k then force (Nat.succ t) fun t' => force (Nat.succ k) fun p' => places F I C s.1.toNat s.2.toNat n t' p' else false
      else false) = true := h
    rw [force_eq] at h'
    cases hc : (Nat.blt (F t) 1024 && (Nat.beq (I (F t)) t && (bif Nat.blt t 256 then Nat.beq (C t) (F t) else true))) with
    | false => rw [hc] at h'; exact absurd h' Bool.false_ne_true
    | true =>
      rw [hc, cond_true] at h'
      rw [Bool.and_eq_true, Bool.and_eq_true] at hc
      obtain ⟨hv, hI, hC⟩ := hc
      have hv : F t < 1024 := Nat.le_of_ble_eq_true hv
      have hI : I (F t) = t := Nat.eq_of_beq_eq_true hI
      have hC : t < 256 → C t = F t := fun ht => by
        rw [show Nat.blt t 256 = true from Nat.ble_eq_true_of_le ht, cond_true] at hC
        exact Nat.eq_of_beq_eq_true hC
      have hw : (BitVec.ofNat 32 (F t)).toNat = F t := by rw [BitVec.toNat_ofNat]; omega
      have hb := blockN_eq (α := Bool) s.1 s.2 (0#32, BitVec.ofNat 32 (F t)) (fun x y => force (Nat.xor x y) fun k =>
          bif Nat.ble p k then force (Nat.succ t) fun t' => force (Nat.succ k) fun p' => places F I C s.1.toNat s.2.toNat n t' p' else false)
      simp only [hw] at hb
      have h0 : (0#32).toNat = 0 := rfl
      rw [h0] at hb
      rw [hb, force_eq] at h'
      have hx : Nat.xor (block s.1 s.2 (key2 s.1 s.2) (0#32, BitVec.ofNat 32 (F t))).1.toNat
          (block s.1 s.2 (key2 s.1 s.2) (0#32, BitVec.ofNat 32 (F t))).2.toNat = sortKey s (F t) := (BitVec.toNat_xor _ _).symm
      rw [hx] at h'
      cases hp : Nat.ble p (sortKey s (F t)) with
      | false => rw [hp] at h'; exact absurd h' Bool.false_ne_true
      | true =>
        rw [hp, cond_true, force_eq, force_eq] at h'
        have hp := Nat.le_of_ble_eq_true hp
        obtain ⟨h1, h2⟩ := ih _ _ h'
        have sh : ∀ i, t + (i + 1) = t.succ + i := fun i => by omega
        refine ⟨fun i hi => ?_, fun i j hij hj => ?_⟩
        · cases i with
          | zero => exact ⟨⟨hv, hI, hC⟩, hp⟩
          | succ i =>
            rw [sh]
            have := h1 i (by omega)
            exact ⟨this.1, by have := this.2; omega⟩
        · obtain ⟨j, rfl⟩ : ∃ j', j = j' + 1 := ⟨j - 1, by omega⟩
          rw [sh]
          cases i with
          | zero => have := (h1 j (by omega)).2; rw [Nat.add_zero]; omega
          | succ i => rw [sh]; exact h2 i j (by omega) (by omega)

/-- What the check of a column shows. -/
theorem column_sound (F I C : Nat → Nat) (b : Nat) (hb : b < 64) (h : column F I C b = true) :
    (∀ t, t < 1024 → Place F I C (subkey b) t)
    ∧ ∀ i j, i < j → j < 1024 → sortKey (subkey b) (F i) < sortKey (subkey b) (F j) := by
  have hw : (BitVec.ofNat 32 b).toNat = b := by rw [BitVec.toNat_ofNat]; omega
  have e1 := blockN_eq (α := Bool) 0#32 42#32 (0#32, BitVec.ofNat 32 b) fun a0 a1 => blockN a0 a1 0 1 fun s0 s1 => places F I C s0 s1 1024 0 0
  rw [hw] at e1
  have e2 := blockN_eq (α := Bool) (tf (0#32, 42#32) (0#32, BitVec.ofNat 32 b)).1 (tf (0#32, 42#32) (0#32, BitVec.ofNat 32 b)).2
    (0#32, 1#32) fun s0 s1 => places F I C s0 s1 1024 0 0
  have e := places_sound F I C (subkey b) 1024 0 0 (e2.symm.trans (e1.symm.trans h))
  simp only [Nat.zero_add] at e
  exact ⟨fun t ht => (e.1 t ht).1, e.2⟩

end Cert.Check
end
-- ==== Proof.Columns.Table.lean ====
/- The kernel's three constant tables, column by column, and the check of a run of columns. -/
module

public import proofs.«01_k».proof.KernelIdeal
public import proofs.«01_k».proof.Proof.Check

@[expose] public section

noncomputable section

namespace Cert.Columns

open Cert.Check Cert.Threefry

/-- The row shuffled to place `t` of column `b`. -/
def fwd (b t : Nat) : Nat := (Cert.KernelIdeal.lit1t (Nat.add (Nat.mul b 1024) t)).toNat

/-- The place row `v` of column `b` is shuffled to. -/
def bwd (b v : Nat) : Nat := (Cert.KernelIdeal.lit2t (Nat.add (Nat.mul b 1024) v)).toNat

/-- The row the kernel takes at place `t` of column `b`. -/
def taken (b t : Nat) : Nat := (Cert.KernelIdeal.lit0t (Nat.add (Nat.mul b 256) t)).toNat

/-- Columns `b`, `b + 1`, …, `n` of them, pass the check. -/
def columns (n : Nat) : Nat → Bool :=
  Nat.rec (fun _ => true) (fun _ next b => bif column (fwd b) (bwd b) (taken b) b then force (Nat.succ b) next else false) n

theorem columns_sound (n : Nat) : ∀ b, columns n b = true → ∀ i, i < n → column (fwd (b + i)) (bwd (b + i)) (taken (b + i)) (b + i) = true := by
  induction n with
  | zero => exact fun b _ i h => absurd h (Nat.not_lt_zero i)
  | succ n ih =>
    intro b h i hi
    have h' : (bif column (fwd b) (bwd b) (taken b) b then force (Nat.succ b) (columns n) else false) = true := h
    cases hc : column (fwd b) (bwd b) (taken b) b with
    | false => rw [hc] at h'; exact absurd h' Bool.false_ne_true
    | true =>
      rw [hc, cond_true, force_eq] at h'
      cases i with
      | zero => exact hc
      | succ i => rw [show b + (i + 1) = b.succ + i by omega]; exact ih _ h' i (by omega)

end Cert.Columns
end
-- ==== Proof.Columns.C0.lean ====
/- Columns 0 to 7 pass the check, by evaluation. -/
module

public import proofs.«01_k».proof.Proof.Columns.Table

@[expose] public section

set_option maxRecDepth 65536

namespace Cert.Columns

theorem columns_0 : columns 8 0 = true := by decide +kernel

end Cert.Columns
end
-- ==== Proof.Columns.C1.lean ====
/- Columns 8 to 15 pass the check, by evaluation. -/
module

public import proofs.«01_k».proof.Proof.Columns.C0

@[expose] public section

set_option maxRecDepth 65536

namespace Cert.Columns

theorem columns_1 : columns 8 8 = true := by decide +kernel

end Cert.Columns
end
-- ==== Proof.Columns.C2.lean ====
/- Columns 16 to 23 pass the check, by evaluation. -/
module

public import proofs.«01_k».proof.Proof.Columns.C1

@[expose] public section

set_option maxRecDepth 65536

namespace Cert.Columns

theorem columns_2 : columns 8 16 = true := by decide +kernel

end Cert.Columns
end
-- ==== Proof.Columns.C3.lean ====
/- Columns 24 to 31 pass the check, by evaluation. -/
module

public import proofs.«01_k».proof.Proof.Columns.C2

@[expose] public section

set_option maxRecDepth 65536

namespace Cert.Columns

theorem columns_3 : columns 8 24 = true := by decide +kernel

end Cert.Columns
end
-- ==== Proof.Columns.C4.lean ====
/- Columns 32 to 39 pass the check, by evaluation. -/
module

public import proofs.«01_k».proof.Proof.Columns.C3

@[expose] public section

set_option maxRecDepth 65536

namespace Cert.Columns

theorem columns_4 : columns 8 32 = true := by decide +kernel

end Cert.Columns
end
-- ==== Proof.Columns.C5.lean ====
/- Columns 40 to 47 pass the check, by evaluation. -/
module

public import proofs.«01_k».proof.Proof.Columns.C4

@[expose] public section

set_option maxRecDepth 65536

namespace Cert.Columns

theorem columns_5 : columns 8 40 = true := by decide +kernel

end Cert.Columns
end
-- ==== Proof.Columns.C6.lean ====
/- Columns 48 to 55 pass the check, by evaluation. -/
module

public import proofs.«01_k».proof.Proof.Columns.C5

@[expose] public section

set_option maxRecDepth 65536

namespace Cert.Columns

theorem columns_6 : columns 8 48 = true := by decide +kernel

end Cert.Columns
end
-- ==== Proof.Columns.C7.lean ====
/- Columns 56 to 63 pass the check, by evaluation. -/
module

public import proofs.«01_k».proof.Proof.Columns.C6

@[expose] public section

set_option maxRecDepth 65536

namespace Cert.Columns

theorem columns_7 : columns 8 56 = true := by decide +kernel

end Cert.Columns
end
-- ==== Proof.Columns.Facts.lean ====
/- What the checked columns say: each is a permutation, listed in the order of its sort keys, with its inverse beside it. -/
module

public import proofs.«01_k».proof.Proof.Columns.C7
public import Mathlib.Data.Fintype.Card

@[expose] public section

noncomputable section

namespace Cert.Columns

open Cert.Check

theorem pick {n b : Nat} (h : columns 8 n = true) (hl : n ≤ b) (hr : b < n + 8) : column (fwd b) (bwd b) (taken b) b = true := by
  have e := columns_sound 8 n h (b - n) (by omega)
  rwa [show n + (b - n) = b by omega] at e

/-- Every column passes the check. -/
theorem column_ok (b : Nat) (hb : b < 64) : column (fwd b) (bwd b) (taken b) b = true := by
  rcases (by omega : b < 8 ∨ 8 ≤ b ∧ b < 16 ∨ 16 ≤ b ∧ b < 24 ∨ 24 ≤ b ∧ b < 32 ∨ 32 ≤ b ∧ b < 40 ∨ 40 ≤ b ∧ b < 48
    ∨ 48 ≤ b ∧ b < 56 ∨ 56 ≤ b ∧ b < 64) with h | h | h | h | h | h | h | h
  · exact pick columns_0 (Nat.zero_le b) h
  · exact pick columns_1 h.1 h.2
  · exact pick columns_2 h.1 h.2
  · exact pick columns_3 h.1 h.2
  · exact pick columns_4 h.1 h.2
  · exact pick columns_5 h.1 h.2
  · exact pick columns_6 h.1 h.2
  · exact pick columns_7 h.1 h.2

theorem placed (b : Fin 64) (t : Fin 1024) : Place (fwd b) (bwd b) (taken b) (subkey b) t :=
  (column_sound _ _ _ b b.isLt (column_ok b b.isLt)).1 t t.isLt

/-- The row at place `t` of column `b`, as an index. -/
def row (b : Fin 64) (t : Fin 1024) : Fin 1024 := ⟨fwd b t, (placed b t).lt⟩

/-- The sort keys increase along a column. -/
theorem row_increasing (b : Fin 64) (i j : Fin 1024) (h : i < j) :
    sortKey (subkey b) (row b i) < sortKey (subkey b) (row b j) :=
  (column_sound _ _ _ b b.isLt (column_ok b b.isLt)).2 i j h j.isLt

theorem bwd_row (b : Fin 64) (t : Fin 1024) : bwd b (row b t) = t := (placed b t).inv

theorem row_injective (b : Fin 64) : Function.Injective (row b) := fun s t h => Fin.ext (by rw [← bwd_row b s, ← bwd_row b t, h])

theorem row_surjective (b : Fin 64) : Function.Surjective (row b) := Finite.injective_iff_surjective.mp (row_injective b)

theorem bwd_lt (b : Fin 64) (v : Fin 1024) : bwd b v < 1024 := by
  obtain ⟨t, rfl⟩ := row_surjective b v
  rw [bwd_row]
  exact t.isLt

/-- The place row `v` of column `b` goes to, as an index. -/
def spot (b : Fin 64) (v : Fin 1024) : Fin 1024 := ⟨bwd b v, bwd_lt b v⟩

theorem row_spot (b : Fin 64) (v : Fin 1024) : row b (spot b v) = v := by
  obtain ⟨t, rfl⟩ := row_surjective b v
  exact congrArg (row b) (Fin.ext (bwd_row b t))

/-- The row taken at a place is the row of that place. -/
theorem taken_row (b : Fin 64) (i : Fin 256) : taken b i = row b (Fin.castLE (by decide) i) :=
  (placed b (Fin.castLE (by decide) i)).head i.isLt

end Cert.Columns
end
end
-- ==== Proof.KernelTables.lean ====
/- What stands in the kernel's operands before its grid runs: the turned patches and the three constant tables. -/
module

public import proofs.«01_k».proof.Proof.KernelRun
public import proofs.«01_k».proof.Proof.OneHot
public import proofs.«01_k».proof.Proof.Columns.Facts
public import Idealize.ShloMosaic.Lib.StableHlo.ReadAt

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen Cert.Columns

variable (m : (ℓ : Loc nD τ sig) → Buf (Elt Ideal) ℓ)

theorem word (x : BitVec 32) : BitVec.ofNat 32 x.toNat = x := by simp

/-- The patches, turned so that a column's rows lie side by side. -/
theorem patches_at (c : Dev nD) (b : Fin 64) (k : Fin 192) (v : Fin 1024) :
    (V m c main_v0 : Vec Ideal S64x192x1024 .f32) (ix3 b k v) = (m (c.tc.loc main_arg0) : Vec Ideal S1024x64x192 .f32) (ix3 v b k) := by
  unfold V V0 hostOps0
  simp only [List.flatten_cons, List.flatten_nil, List.append_nil]
  after_reads_at

/-- The list of rows to take. -/
theorem lists_at (c : Dev nD) (b : Fin 64) (i : Fin 256) :
    (V m c main_c : Vec Ideal S64x1x256 .i32) (ix3 b 0 i) = lit0 (S64x1x256.rowMajor (ix3 b 0 i)) := by
  unfold V V0 hostOps0
  simp only [List.flatten_cons, List.flatten_nil, List.append_nil]
  after_reads_at

theorem forward_at (c : Dev nD) (b : Fin 64) (t : Fin 1024) :
    (V m c main_c_0 : Vec Ideal S64x1024 .i32) (ix2 b t) = lit1 (S64x1024.rowMajor (ix2 b t)) := by
  unfold V V0 hostOps0
  simp only [List.flatten_cons, List.flatten_nil, List.append_nil]
  after_reads_at

theorem backward_at (c : Dev nD) (b : Fin 64) (t : Fin 1024) :
    (V m c main_c_1 : Vec Ideal S64x1024 .i32) (ix2 b t) = lit2 (S64x1024.rowMajor (ix2 b t)) := by
  unfold V V0 hostOps0
  simp only [List.flatten_cons, List.flatten_nil, List.append_nil]
  after_reads_at

theorem forward_row (c : Dev nD) (b : Fin 64) (t : Fin 1024) :
    (V m c main_c_0 : Vec Ideal S64x1024 .i32) (ix2 b t) = BitVec.ofNat 32 (row b t) := by
  rw [forward_at]
  have e : (S64x1024.rowMajor (ix2 b t)).val = b.val * 1024 + t.val := Shape.rowMajor_val_two _
  show lit1t (S64x1024.rowMajor (ix2 b t)).val = _
  rw [e]
  exact (word _).symm

theorem backward_spot (c : Dev nD) (b : Fin 64) (v : Fin 1024) :
    (V m c main_c_1 : Vec Ideal S64x1024 .i32) (ix2 b v) = BitVec.ofNat 32 (spot b v) := by
  rw [backward_at]
  have e : (S64x1024.rowMajor (ix2 b v)).val = b.val * 1024 + v.val := Shape.rowMajor_val_two _
  show lit2t (S64x1024.rowMajor (ix2 b v)).val = _
  rw [e]
  exact (word _).symm

theorem list_row (c : Dev nD) (b : Fin 64) (i : Fin 256) :
    (V m c main_c : Vec Ideal S64x1x256 .i32) (ix3 b 0 i) = BitVec.ofNat 32 (row b (Fin.castLE (by decide) i)) := by
  rw [lists_at, ← taken_row]
  have e : (S64x1x256.rowMajor (ix3 b 0 i)).val = (b.val * 1 + 0) * 256 + i.val := Shape.rowMajor_val_three _
  show lit0t (S64x1x256.rowMajor (ix3 b 0 i)).val = _
  rw [e, Nat.mul_one, Nat.add_zero]
  exact (word _).symm

end Cert.KernelIdeal
-- ==== Proof.KernelArrays.lean ====
/- What the kernel's grid leaves in its three output arrays. -/
module

public import proofs.«01_k».proof.Proof.KernelTables
public import Idealize.ShloMosaic.Lib.Pipeline.Value
public import Idealize.ShloMosaic.Lib.Pipeline.ValueKit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen Cert.Columns

variable (m : (ℓ : Loc nD τ sig) → Buf (Elt Ideal) ℓ)

/-- The last grid point. -/
def last : Fin cfg0.N := ⟨3, by rw [show cfg0.N = 4 from N_0]; decide⟩

/-- The block numbers of the three windows that move with the grid. -/
theorem index_0 : ∀ t : Fin cfg0.N, (cfg0.win 0).index t 0 = t.val ∧ (cfg0.win 0).index t 1 = 0 ∧ (cfg0.win 0).index t 2 = 0 := by
  decide +kernel
theorem index_1 : ∀ t : Fin cfg0.N, (cfg0.win 1).index t 0 = t.val ∧ (cfg0.win 1).index t 1 = 0 ∧ (cfg0.win 1).index t 2 = 0 := by
  decide +kernel
theorem index_4 : ∀ t : Fin cfg0.N, (cfg0.win 4).index t 0 = t.val ∧ (cfg0.win 4).index t 1 = 0 ∧ (cfg0.win 4).index t 2 = 0 := by
  decide +kernel

theorem home (n x : Nat) : 0 * n + x = x := by omega

theorem point_lt (t : Fin cfg0.N) : t.val < 4 := Nat.lt_of_lt_of_eq t.isLt N_0

/-- The column that plane `g` of point `t` works on. -/
def col (t : Fin cfg0.N) (g : Fin 16) : Fin 64 := ⟨t.val * 16 + g.val, by have := point_lt t; omega⟩

theorem rows_at (c : Dev nD) (t : Fin cfg0.N) (g : Fin 16) (k : Fin 192) (v : Fin 1024) :
    (iblk m c 0 t : Vec Ideal S16x192x1024 .f32) (ix3 g k v) = (m (c.tc.loc main_arg0) : Vec Ideal S1024x64x192 .f32) (ix3 v (col t g) k) := by
  rw [← patches_at m c]
  show V m c main_v0 _ = _
  refine congrArg (V m c main_v0 : Vec Ideal S64x192x1024 .f32) (funext fun a => Fin.ext ?_)
  refine (Window.rect_emb_val (cfg0.win 0) t (ix3 g k v) a).trans ?_
  match a with
  | ⟨0, _⟩ => exact (congrArg (· * 16 + g.val) (index_0 t).1)
  | ⟨1, _⟩ => exact (congrArg (· * 192 + k.val) (index_0 t).2.1).trans (home _ _)
  | ⟨2, _⟩ => exact (congrArg (· * 1024 + v.val) (index_0 t).2.2).trans (home _ _)

theorem names_at (c : Dev nD) (t : Fin cfg0.N) (g : Fin 16) (i : Fin 256) :
    (iblk m c 1 t : Vec Ideal S16x1x256 .i32) (ix3 g 0 i) = BitVec.ofNat 32 (row (col t g) (Fin.castLE (by decide) i)) := by
  rw [← list_row m c]
  show V m c main_c _ = _
  refine congrArg (V m c main_c : Vec Ideal S64x1x256 .i32) (funext fun a => Fin.ext ?_)
  refine (Window.rect_emb_val (cfg0.win 1) t (ix3 g 0 i) a).trans ?_
  match a with
  | ⟨0, _⟩ => exact (congrArg (· * 16 + g.val) (index_1 t).1)
  | ⟨1, _⟩ => exact (congrArg (· * 1 + 0) (index_1 t).2.1)
  | ⟨2, _⟩ => exact (congrArg (· * 256 + i.val) (index_1 t).2.2).trans (home _ _)

/-- The rows taken, column by column, still turned. -/
def gathered (c : Dev nD) : Vec Ideal S64x192x256 .f32 := fun z =>
  (m (c.tc.loc main_arg0) : Vec Ideal S1024x64x192 .f32) (ix3 (row (z 0) (Fin.castLE (by decide) (z 2))) (z 0) (z 1))

theorem block_at (c : Dev nD) (t : Fin cfg0.N) (g : Fin 16) (k : Fin 192) (i : Fin 256) :
    block (iblk m c 0 t) (iblk m c 1 t) (ix3 g k i) = gathered m c (ix3 (col t g) k i) := by
  refine (product _ _ k i (row (col t g) (Fin.castLE (by decide) i)) ?_).trans ?_
  · exact names_at m c t g i
  · exact rows_at m c t g k _

theorem arr_4 (c : Dev nD) : (dats m 0 c).arrAt 4 cfg0.N = gathered m c := by
  refine (dats m 0 c).arrAt_eq_of_covers 4 _ (by decide +kernel) fun t hf y => ?_
  rw [after_4]
  blk_simp
  have hy : (y : S16x192x256.Idx) = ix3 (y 0) (y 1) (y 2) := by idx_vars y; rfl
  refine ((congrArg (block (iblk m c 0 t) (iblk m c 1 t)) hy).trans (block_at m c t (y 0) (y 1) (y 2))).trans ?_
  refine congrArg (gathered m c) (funext fun a => Fin.ext ?_)
  refine Eq.trans ?_ (Window.rect_emb_val (cfg0.win 4) t y a).symm
  match a with
  | ⟨0, _⟩ => exact (congrArg (· * 16 + (y 0).val) (index_4 t).1).symm
  | ⟨1, _⟩ => exact ((congrArg (· * 192 + (y 1).val) (index_4 t).2.1).trans (home _ _)).symm
  | ⟨2, _⟩ => exact ((congrArg (· * 256 + (y 2).val) (index_4 t).2.2).trans (home _ _)).symm

theorem index_2 : ∀ a, (cfg0.win 2).index start a = 0 := by decide +kernel
theorem index_3 : ∀ a, (cfg0.win 3).index start a = 0 := by decide +kernel

/-- A window that is the whole array reads the array. -/
theorem forward_block (c : Dev nD) : iblk m c 2 start = (V m c main_c_0 : Vec Ideal S64x1024 .i32) := by
  funext j
  show V m c main_c_0 _ = _
  exact congrArg _ (funext fun a => Fin.ext (Window.rect_emb_val_of_index_zero (cfg0.win 2) start a (index_2 a) j))

theorem backward_block (c : Dev nD) : iblk m c 3 start = (V m c main_c_1 : Vec Ideal S64x1024 .i32) := by
  funext j
  show V m c main_c_1 _ = _
  exact congrArg _ (funext fun a => Fin.ext (Window.rect_emb_val_of_index_zero (cfg0.win 3) start a (index_3 a) j))

theorem arr_5 (c : Dev nD) : (dats m 0 c).arrAt 5 cfg0.N = (V m c main_c_0 : Vec Ideal S64x1024 .i32) := by
  refine (dats m 0 c).arrAt_eq_of_after_last 5 last (by decide +kernel) _ fun j => ?_
  rw [after_5]
  blk_simp
  exact congrFun (forward_block m c) j

theorem arr_6 (c : Dev nD) : (dats m 0 c).arrAt 6 cfg0.N = (V m c main_c_1 : Vec Ideal S64x1024 .i32) := by
  refine (dats m 0 c).arrAt_eq_of_after_last 6 last (by decide +kernel) _ fun j => ?_
  rw [after_6]
  blk_simp
  exact congrFun (backward_block m c) j

end Cert.KernelIdeal
-- ==== Proof.KernelValues.lean ====
/- What the kernel's run leaves in its three results. -/
module

public import proofs.«01_k».proof.Proof.KernelArrays

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen Cert.Columns

variable (m : (ℓ : Loc nD τ sig) → Buf (Elt Ideal) ℓ) (ρ : Dev nD → PrngReg)

/-- What stands in the result buffers once the grid and the last three host lines are done. -/
def left (c : Dev nD) (b : Ref sig .tc) := Pipeline.afterTail₀ cfgs (dats m) 0 (V0 m) [hostOps1] c b

theorem left_rows (c : Dev nD) (i : Fin 256) (b : Fin 64) (k : Fin 192) :
    (left m c main_v2 : Vec Ideal S256x64x192 .f32) (ix3 i b k)
      = (m (c.tc.loc main_arg0) : Vec Ideal S1024x64x192 .f32) (ix3 (row b (Fin.castLE (by decide) i)) b k) := by
  have e := (Pipeline.withArrays_arr spec0 (by decide) c (V0 m c) (fun w => (dats m 0 c).arrAt w cfg0.N) 4).trans (arr_4 m c)
  unfold left Pipeline.afterTail₀ hostOps1
  simp only [List.flatten_cons, List.flatten_nil, List.append_nil]
  after_reads_at
  exact congrFun e (ix3 b k i)

theorem left_forward (c : Dev nD) (t : Fin 1024) (b : Fin 64) :
    (left m c main_v3 : Vec Ideal S1024x64 .i32) (ix2 t b) = BitVec.ofNat 32 (row b t) := by
  have e := (Pipeline.withArrays_arr spec0 (by decide) c (V0 m c) (fun w => (dats m 0 c).arrAt w cfg0.N) 5).trans (arr_5 m c)
  rw [← forward_row m c]
  unfold left Pipeline.afterTail₀ hostOps1
  simp only [List.flatten_cons, List.flatten_nil, List.append_nil]
  refine Eq.trans ?_ (congrFun e (ix2 b t))
  generalize Pipeline.withArrays _ c _ _ = W
  after_reads_at

theorem left_backward (c : Dev nD) (v : Fin 1024) (b : Fin 64) :
    (left m c main_v4 : Vec Ideal S1024x64 .i32) (ix2 v b) = BitVec.ofNat 32 (spot b v) := by
  have e := (Pipeline.withArrays_arr spec0 (by decide) c (V0 m c) (fun w => (dats m 0 c).arrAt w cfg0.N) 6).trans (arr_6 m c)
  rw [← backward_spot m c]
  unfold left Pipeline.afterTail₀ hostOps1
  simp only [List.flatten_cons, List.flatten_nil, List.append_nil]
  refine Eq.trans ?_ (congrFun e (ix2 b v))
  generalize Pipeline.withArrays _ c _ _ = W
  after_reads_at

/-- The kernel's run: the rows it takes, the two tables it copies out, and its argument as it was. -/
theorem run_values : θ_run defs (onTc (main (F := Ideal))) ⟨m, fun _ => 0, ρ⟩ fun r => (∀ c : Dev nD,
      (∀ i b k, (r.2.mem (c.tc.loc main_v2) : Vec Ideal S256x64x192 .f32) (ix3 i b k)
        = (m (c.tc.loc main_arg0) : Vec Ideal S1024x64x192 .f32) (ix3 (row b (Fin.castLE (by decide) i)) b k))
      ∧ (∀ t b, (r.2.mem (c.tc.loc main_v3) : Vec Ideal S1024x64 .i32) (ix2 t b) = BitVec.ofNat 32 (row b t))
      ∧ (∀ v b, (r.2.mem (c.tc.loc main_v4) : Vec Ideal S1024x64 .i32) (ix2 v b) = BitVec.ofNat 32 (spot b v))
      ∧ r.2.mem (c.tc.loc main_arg0) = m (c.tc.loc main_arg0)) ∧ r.2.sem = fun _ => 0 := by
  refine (θ_run defs _ _).mono ?_ (θ_run_and (ran m ρ) (framed m ρ))
  rintro r ⟨⟨h, _⟩, ha, hs⟩
  refine ⟨fun c => ⟨fun i b k => ?_, fun t b => ?_, fun v b => ?_, ha c⟩, hs⟩
  · exact (congrFun ((h c).2 main_v2 (Pipeline.mem_restRefs_of main_v2 (by decide) (by decide))) (ix3 i b k)).trans (left_rows m c i b k)
  · exact (congrFun ((h c).2 main_v3 (Pipeline.mem_restRefs_of main_v3 (by decide) (by decide))) (ix2 t b)).trans (left_forward m c t b)
  · exact (congrFun ((h c).2 main_v4 (Pipeline.mem_restRefs_of main_v4 (by decide) (by decide))) (ix2 v b)).trans (left_backward m c v b)

end Cert.KernelIdeal
-- ==== Proof.Line.lean ====
/- A straight line of host operations in which each operation writes a buffer numbered above every buffer
   touched before it. At the end of such a line every operation's equation holds of the final contents. -/
module

public import Idealize.ShloMosaic.Lib.StableHlo.RunHlo
public import Idealize.ShloMosaic.Lib.StableHlo.Run

@[expose] public section

noncomputable section

namespace Cert.Line

open Idealize.ShloMosaic Idealize.ShloMosaic.StableHlo Idealize.SL.Sem

variable {nD : Nat} {τ : Topo} {sig : RefSig} {Val : EltTy → Type} {Λ : Labels}

/-- The contents of a typed reference. -/
def read {T : BufTy} (t : TRef sig T) (M : Valuation τ sig Val) : T.Contents Val := t.ofBuf (M (Proc.devRef .tc t.ref))

/-- A buffer's number. -/
def num (r : Ref sig .tc) : Nat := r.idx.val

/-- The operation writes `y` alone, a buffer numbered `lo` or more; afterwards, whatever is written above `y`,
    the property `E` holds of the contents. -/
structure Step (lo : Nat) (op : HloOp τ sig Val) (y : Ref sig .tc) (E : Valuation τ sig Val → Prop) : Prop where
  lo : lo ≤ num y
  writes : op.writes = {Proc.devRef .tc y}
  bufs : op.bufs ⊆ tcRefs τ sig
  fresh : op.fresh = ∅
  holds : ∀ F M : Valuation τ sig Val, M (Proc.devRef .tc y) = op.result F (Proc.devRef .tc y) →
    (∀ r : Ref sig .tc, num r < num y → M (Proc.devRef .tc r) = F (Proc.devRef .tc r)) → E M

/-- The operations write buffers numbered between `lo` and `hi`, and `Q` holds of their final contents and of
    any contents agreeing with these below `hi`. -/
structure Chain (lo : Nat) (ops : List (HloOp τ sig Val)) (hi : Nat) (Q : Valuation τ sig Val → Prop) : Prop where
  le : lo ≤ hi
  low : ∀ (V : Valuation τ sig Val) (r : Ref sig .tc), num r < lo → after ops V (Proc.devRef .tc r) = V (Proc.devRef .tc r)
  holds : ∀ V M : Valuation τ sig Val,
    (∀ r : Ref sig .tc, num r < hi → M (Proc.devRef .tc r) = after ops V (Proc.devRef .tc r)) → Q M
  bufs : ∀ op ∈ ops, op.bufs ⊆ tcRefs τ sig
  fresh : ∀ op ∈ ops, op.fresh = ∅

theorem Chain.nil {lo hi : Nat} (h : lo ≤ hi) : Chain lo ([] : List (HloOp τ sig Val)) hi fun _ => True :=
  ⟨h, fun _ _ _ => rfl, fun _ _ _ => trivial, nofun, nofun⟩

theorem Step.low {lo : Nat} {op : HloOp τ sig Val} {y : Ref sig .tc} {E : Valuation τ sig Val → Prop} (h : Step lo op y E)
    (V : Valuation τ sig Val) (r : Ref sig .tc) (hr : num r < num y) :
    op.result V (Proc.devRef .tc r) = V (Proc.devRef .tc r) := by
  refine HloOp.result_of_not_mem _ _ ?_
  rw [h.writes, Finset.mem_singleton]
  exact devRef_ne_of_ne fun e => by subst e; omega

theorem Chain.cons {lo hi : Nat} {op : HloOp τ sig Val} {ops : List (HloOp τ sig Val)} {y : Ref sig .tc}
    {E Q : Valuation τ sig Val → Prop} (h : Step lo op y E) (t : Chain (num y + 1) ops hi Q) :
    Chain lo (op :: ops) hi fun M => E M ∧ Q M where
  le := by have := h.lo; have := t.le; omega
  low V r hr := by
    have := h.lo
    rw [after_cons, t.low _ r (by omega), h.low V r (by omega)]
  holds V M hM := by
    have := t.le
    refine ⟨h.holds V M ?_ fun r hr => ?_, t.holds _ M hM⟩
    · rw [hM y (by omega), after_cons, t.low _ y (Nat.lt_succ_self _)]
    · rw [hM r (by omega), after_cons, t.low _ r (by omega), h.low V r hr]
  bufs := List.forall_mem_cons.mpr ⟨h.bufs, t.bufs⟩
  fresh := List.forall_mem_cons.mpr ⟨h.fresh, t.fresh⟩

theorem after_append {l₁ l₂ : List (HloOp τ sig Val)} : ∀ V : Valuation τ sig Val, after (l₁ ++ l₂) V = after l₂ (after l₁ V) := by
  induction l₁ with
  | nil => intro V; rfl
  | cons op l ih => intro V; exact ih _

theorem Chain.append {lo mid hi : Nat} {l₁ l₂ : List (HloOp τ sig Val)} {P Q : Valuation τ sig Val → Prop}
    (h : Chain lo l₁ mid P) (t : Chain mid l₂ hi Q) : Chain lo (l₁ ++ l₂) hi fun M => P M ∧ Q M where
  le := h.le.trans t.le
  low V r hr := by have := h.le; rw [after_append, t.low _ r (by omega), h.low V r hr]
  holds V M hM := by
    have := t.le
    refine ⟨h.holds V M fun r hr => ?_, t.holds (after l₁ V) M fun r hr => ?_⟩
    · rw [hM r (by omega), after_append, t.low _ r hr]
    · rw [hM r hr, after_append]
  bufs op hop := (List.mem_append.mp hop).elim (h.bufs op) (t.bufs op)
  fresh op hop := (List.mem_append.mp hop).elim (h.fresh op) (t.fresh op)

/-- The program is a straight line writing buffers numbered between `lo` and `hi`, and leaves contents with `Q`. -/
def Line (p : Prog (TpuEff nD τ sig Val Λ .tc) PUnit) (lo hi : Nat) (Q : Valuation τ sig Val → Prop) : Prop :=
  ∃ ops, IsSeq p ops ∧ Chain lo ops hi Q

variable {p k : Prog (TpuEff nD τ sig Val Λ .tc) PUnit} {lo mid hi : Nat} {P Q : Valuation τ sig Val → Prop}

theorem Line.mono (h : Line p lo hi P) (hQ : ∀ M, P M → Q M) : Line p lo hi Q :=
  have ⟨ops, hs, hc⟩ := h
  ⟨ops, hs, hc.le, hc.low, fun V M hM => hQ M (hc.holds V M hM), hc.bufs, hc.fresh⟩

theorem Line.nil (h : lo ≤ hi) : Line (pure ⟨⟩ : Prog (TpuEff nD τ sig Val Λ .tc) PUnit) lo hi fun _ => True := ⟨[], IsSeq.nil, Chain.nil h⟩

theorem Line.bind (h : Line p lo mid P) (t : Line k mid hi Q) : Line (p >>= fun _ => k) lo hi fun M => P M ∧ Q M := by
  obtain ⟨l₁, hs₁, hc₁⟩ := h
  obtain ⟨l₂, hs₂, hc₂⟩ := t
  refine ⟨l₁ ++ l₂, ?_, hc₁.append hc₂⟩
  unfold IsSeq at hs₁ hs₂ ⊢
  rw [hs₁, hs₂, seq_append]

/-- A called line that starts higher up, then the rest. -/
theorem Line.call {lo' : Nat} (h : Line p lo' mid P) (hl : lo ≤ lo') (t : Line k mid hi Q) :
    Line (p >>= fun _ => k) lo hi fun M => P M ∧ Q M :=
  have ⟨ops, hs, hc⟩ := h
  Line.bind ⟨ops, hs, hl.trans hc.le, fun V r hr => hc.low V r (hr.trans_le hl), hc.holds, hc.bufs, hc.fresh⟩ t

theorem Line.cons {op : HloOp τ sig Val} {y : Ref sig .tc} {E : Valuation τ sig Val → Prop} (h : Step lo op y E)
    (t : Line k (num y + 1) hi Q) : Line ((hlo rfl op fun _ => .ret (⟨⟩ : PUnit)) >>= fun _ => k) lo hi fun M => E M ∧ Q M :=
  have ⟨ops, hs, hc⟩ := t
  ⟨op :: ops, hs.cons, hc.cons h⟩

theorem Line.one {op : HloOp τ sig Val} {y : Ref sig .tc} {E : Valuation τ sig Val → Prop} (h : Step lo op y E)
    (hy : num y + 1 ≤ hi) : Line (nD := nD) (Λ := Λ) (hlo rfl op fun _ => .ret (⟨⟩ : PUnit)) lo hi E :=
  ⟨[op], rfl, by simpa using (Chain.nil hy).cons h⟩

/-! The equation of each kind of operation. -/

section Steps

variable {Tx Ta Tb Tc Ty : BufTy}

theorem Step.nullary (y : TRef sig Ty) (v : Ty.Contents Val) (h : lo ≤ num y.ref) :
    Step (τ := τ) lo (TRef.nullary y v) y.ref fun M => read y M = v where
  lo := h
  writes := nullary_writes _ _ _
  bufs := nullary_bufs_sub _ _ _
  fresh := rfl
  holds F M hy _ := by
    obtain ⟨y, rfl, _, _⟩ := y
    rw [nullary_result'] at hy
    exact hy

theorem Step.unary (x : TRef sig Tx) (y : TRef sig Ty) (f : Tx.Contents Val → Ty.Contents Val) (h : lo ≤ num y.ref)
    (hx : num x.ref < num y.ref) :
    Step (τ := τ) lo (TRef.unary x y f) y.ref fun M => read y M = f (read x M) where
  lo := h
  writes := unary_writes _ _ _ _ _
  bufs := unary_bufs_sub _ _ _ _ _
  fresh := rfl
  holds F M hy hr := by
    obtain ⟨x, rfl, _, _⟩ := x
    obtain ⟨y, rfl, _, _⟩ := y
    rw [unary_result', ← hr _ hx] at hy
    exact hy

theorem Step.binary (a : TRef sig Ta) (b : TRef sig Tb) (y : TRef sig Ty)
    (f : Ta.Contents Val → Tb.Contents Val → Ty.Contents Val) (h : lo ≤ num y.ref) (ha : num a.ref < num y.ref)
    (hb : num b.ref < num y.ref) :
    Step (τ := τ) lo (TRef.binary a b y f) y.ref fun M => read y M = f (read a M) (read b M) where
  lo := h
  writes := binary_writes _ _ _ _ _ _ _
  bufs := binary_bufs_sub _ _ _ _ _ _ _
  fresh := rfl
  holds F M hy hr := by
    obtain ⟨a, rfl, _, _⟩ := a
    obtain ⟨b, rfl, _, _⟩ := b
    obtain ⟨y, rfl, _, _⟩ := y
    rw [binary_result', ← hr _ ha, ← hr _ hb] at hy
    exact hy

theorem Step.ternary (c : TRef sig Tc) (a : TRef sig Ta) (b : TRef sig Tb) (y : TRef sig Ty)
    (f : Tc.Contents Val → Ta.Contents Val → Tb.Contents Val → Ty.Contents Val) (h : lo ≤ num y.ref)
    (hc : num c.ref < num y.ref) (ha : num a.ref < num y.ref) (hb : num b.ref < num y.ref) :
    Step (τ := τ) lo (TRef.ternary c a b y f) y.ref fun M => read y M = f (read c M) (read a M) (read b M) where
  lo := h
  writes := ternary_writes _ _ _ _ _ _ _ _ _
  bufs := ternary_bufs_sub _ _ _ _ _ _ _ _ _
  fresh := rfl
  holds F M hy hr := by
    obtain ⟨c, rfl, _, _⟩ := c
    obtain ⟨a, rfl, _, _⟩ := a
    obtain ⟨b, rfl, _, _⟩ := b
    obtain ⟨y, rfl, _, _⟩ := y
    rw [ternary_result', ← hr _ hc, ← hr _ ha, ← hr _ hb] at hy
    exact hy

theorem Step.reshape (x : TRef sig Tx) (y : TRef sig Ty) (he : Tx.elt = Ty.elt) (hn : Tx.shape.ShapeCasts Ty.shape)
    (h : lo ≤ num y.ref) (hx : num x.ref < num y.ref) :
    Step (τ := τ) (Val := Val) lo (TRef.reshape x y he hn) y.ref
      fun M => read y M = fun i => he ▸ shapeCast Ty.shape (read x M) hn i where
  lo := h
  writes := reshape_writes _ _ _ _ _ _
  bufs := reshape_bufs_sub _ _ _ _ _ _
  fresh := rfl
  holds F M hy hr := by
    obtain ⟨x, rfl, _, _⟩ := x
    obtain ⟨y, rfl, _, _⟩ := y
    rw [reshape_result', ← hr _ hx] at hy
    exact hy

/-! The same over plain references. -/

theorem Step.nullary' (y : Ref sig .tc) (v : y.ty.Contents Val) (hy) (h : lo ≤ num y) :
    Step (τ := τ) lo (StableHlo.nullary y v hy) y fun M => M (Proc.devRef .tc y) = v :=
  Step.nullary ⟨y, rfl, hy.1, hy.2⟩ v h

theorem Step.unary' (x y : Ref sig .tc) (f : x.ty.Contents Val → y.ty.Contents Val) (hx hy) (h : lo ≤ num y) (h' : num x < num y) :
    Step (τ := τ) lo (StableHlo.unary x y f hx hy) y fun M => M (Proc.devRef .tc y) = f (M (Proc.devRef .tc x)) :=
  Step.unary ⟨x, rfl, hx.1, hx.2⟩ ⟨y, rfl, hy.1, hy.2⟩ f h h'

theorem Step.binary' (a b y : Ref sig .tc) (f : a.ty.Contents Val → b.ty.Contents Val → y.ty.Contents Val) (ha hb hy)
    (h : lo ≤ num y) (h₁ : num a < num y) (h₂ : num b < num y) :
    Step (τ := τ) lo (StableHlo.binary a b y f ha hb hy) y
      fun M => M (Proc.devRef .tc y) = f (M (Proc.devRef .tc a)) (M (Proc.devRef .tc b)) :=
  Step.binary ⟨a, rfl, ha.1, ha.2⟩ ⟨b, rfl, hb.1, hb.2⟩ ⟨y, rfl, hy.1, hy.2⟩ f h h₁ h₂

end Steps

/-- A program that is such a line runs, ends with every counter at zero and with contents `M` of each device for
    which `Q M` holds, and keeps every buffer numbered below it. -/
theorem run (defs : Defs nD τ sig Val Λ) (main : Dev nD → Prog (TpuEff nD τ sig Val Λ .tc) PUnit)
    (h : ∀ d, Line (main d) lo hi Q)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD, ∃ M : Valuation τ sig Val, Q M ∧ (∀ b : Ref sig .tc, num b < lo → M (Proc.devRef .tc b) = launchContents m d (Proc.devRef .tc b))
        ∧ ∀ b : Ref sig .tc, r.2.mem ((d.tc : Thread nD τ).loc b) = M (Proc.devRef .tc b) := by
  choose ops hs hc using h
  refine θ_run_mono (run_seq hR hC defs main ops hs (fun d => List.forall_iff_forall_mem.mpr (hc d).bufs) m ρ fun d => (hc d).fresh)
    fun r hr d => ⟨after (ops d) (launchContents m d), (hc d).holds _ _ fun _ _ => rfl, (hc d).low _, hr d⟩

end Cert.Line
end
-- ==== Proof.Round.lean ====
/- The rounds and the key additions of the threefry function as stretches of a straight line. -/
module

public import proofs.«01_k».proof.Proof.Line
public import proofs.«01_k».proof.Proof.Threefry

@[expose] public section

noncomputable section

namespace Cert.Line

open Idealize.ShloMosaic Idealize.ShloMosaic.StableHlo Idealize.SL.Sem Cert.Threefry

variable {nD : Nat} {τ : Topo} {sig : RefSig} {F : FTy → Type} {Λ : Labels} {lo hi : Nat}
  {K : Prog (TpuEff nD τ sig (Elt F) Λ .tc) PUnit} {Q : Valuation τ sig (Elt F) → Prop} {s s₀ s₁ : Shape}

/-- The scalar shape. -/
abbrev sc : Shape := ⟨0, ![]⟩

/-- Nine operations computing one round of the pair held in `a` and `b`. -/
theorem Line.round (r q : Nat) (h₀ : sc.BroadcastsInDim s (![] : Fin 0 → Fin s.rank)) (h₁ : sc.BroadcastsInDim s (![] : Fin 0 → Fin s.rank))
    (a b d v x v' y z w : TRef sig ⟨s, .i32⟩) (c c' : TRef sig ⟨sc, .i32⟩)
    (ha : lo ≤ num d.ref ∧ num a.ref < num d.ref ∧ num b.ref < num d.ref ∧ num d.ref < num c.ref ∧ num c.ref < num v.ref
      ∧ num v.ref < num x.ref ∧ num x.ref < num c'.ref ∧ num c'.ref < num v'.ref ∧ num v'.ref < num y.ref ∧ num y.ref < num z.ref
      ∧ num z.ref < num w.ref)
    (t : Line K (num w.ref + 1) hi Q) :
    Line (hlo rfl (TRef.binary a b d addi) (fun _ => .ret (⟨⟩ : PUnit)) >>= fun _ =>
      hlo rfl (TRef.nullary c (constantI sc 32 (BitVec.ofNat 32 r))) (fun _ => .ret (⟨⟩ : PUnit)) >>= fun _ =>
      hlo rfl (TRef.unary c v (broadcastInDim s ![] h₀)) (fun _ => .ret (⟨⟩ : PUnit)) >>= fun _ =>
      hlo rfl (TRef.binary b v x Host.shli) (fun _ => .ret (⟨⟩ : PUnit)) >>= fun _ =>
      hlo rfl (TRef.nullary c' (constantI sc 32 (BitVec.ofNat 32 q))) (fun _ => .ret (⟨⟩ : PUnit)) >>= fun _ =>
      hlo rfl (TRef.unary c' v' (broadcastInDim s ![] h₁)) (fun _ => .ret (⟨⟩ : PUnit)) >>= fun _ =>
      hlo rfl (TRef.binary b v' y Host.shrui) (fun _ => .ret (⟨⟩ : PUnit)) >>= fun _ =>
      hlo rfl (TRef.binary x y z ori) (fun _ => .ret (⟨⟩ : PUnit)) >>= fun _ =>
      hlo rfl (TRef.binary d z w xori) (fun _ => .ret (⟨⟩ : PUnit)) >>= fun _ => K) lo hi
      fun M => (read d M, read w M) = rndV r q (read a M, read b M) ∧ Q M := by
  refine Line.mono (Line.cons (Step.binary _ _ _ _ ?_ ?_ ?_) <| Line.cons (Step.nullary _ _ ?_) <|
    Line.cons (Step.unary _ _ _ ?_ ?_) <| Line.cons (Step.binary _ _ _ _ ?_ ?_ ?_) <| Line.cons (Step.nullary _ _ ?_) <|
    Line.cons (Step.unary _ _ _ ?_ ?_) <| Line.cons (Step.binary _ _ _ _ ?_ ?_ ?_) <| Line.cons (Step.binary _ _ _ _ ?_ ?_ ?_) <|
    Line.cons (Step.binary _ _ _ _ ?_ ?_ ?_) t) ?_
  case refine_22 =>
    rintro M ⟨e1, e2, e3, e4, e5, e6, e7, e8, e9, hQ⟩
    refine ⟨?_, hQ⟩
    rw [e9, e8, e7, e6, e5, e4, e3, e2, e1]
    rfl
  all_goals omega

/-- Four operations computing the first key addition. -/
theorem Line.inj₀ (m₀ m₁) (h₀ : s₀.BroadcastsInDim s m₀) (h₁ : s₁.BroadcastsInDim s m₁)
    (a b v d v' w : TRef sig ⟨s, .i32⟩) (k₀ : TRef sig ⟨s₀, .i32⟩) (k₁ : TRef sig ⟨s₁, .i32⟩)
    (ha : lo ≤ num v.ref ∧ num k₀.ref < num v.ref ∧ num v.ref < num d.ref ∧ num a.ref < num d.ref ∧ num d.ref < num v'.ref
      ∧ num k₁.ref < num v'.ref ∧ num v'.ref < num w.ref ∧ num b.ref < num w.ref)
    (t : Line K (num w.ref + 1) hi Q) :
    Line (hlo rfl (TRef.unary k₀ v (broadcastInDim s m₀ h₀)) (fun _ => .ret (⟨⟩ : PUnit)) >>= fun _ =>
      hlo rfl (TRef.binary a v d addi) (fun _ => .ret (⟨⟩ : PUnit)) >>= fun _ =>
      hlo rfl (TRef.unary k₁ v' (broadcastInDim s m₁ h₁)) (fun _ => .ret (⟨⟩ : PUnit)) >>= fun _ =>
      hlo rfl (TRef.binary b v' w addi) (fun _ => .ret (⟨⟩ : PUnit)) >>= fun _ => K) lo hi
      fun M => (read d M, read w M) = inj₀V (broadcastInDim s m₀ h₀ (read k₀ M)) (broadcastInDim s m₁ h₁ (read k₁ M))
        (read a M, read b M) ∧ Q M := by
  refine Line.mono (Line.cons (Step.unary _ _ _ ?_ ?_) <| Line.cons (Step.binary _ _ _ _ ?_ ?_ ?_) <|
    Line.cons (Step.unary _ _ _ ?_ ?_) <| Line.cons (Step.binary _ _ _ _ ?_ ?_ ?_) t) ?_
  case refine_11 =>
    rintro M ⟨e1, e2, e3, e4, hQ⟩
    refine ⟨?_, hQ⟩
    rw [e4, e3, e2, e1]
    rfl
  all_goals omega

/-- Seven operations computing a later key addition. -/
theorem Line.inj (e : Nat) (m₀ m₁) (h₀ : s₀.BroadcastsInDim s m₀) (h₁ : s₁.BroadcastsInDim s m₁) (h₂ : sc.BroadcastsInDim s (![] : Fin 0 → Fin s.rank))
    (a b v d v' u x w : TRef sig ⟨s, .i32⟩) (k₀ : TRef sig ⟨s₀, .i32⟩) (k₁ : TRef sig ⟨s₁, .i32⟩) (c : TRef sig ⟨sc, .i32⟩)
    (ha : lo ≤ num v.ref ∧ num k₀.ref < num v.ref ∧ num v.ref < num d.ref ∧ num a.ref < num d.ref ∧ num d.ref < num v'.ref
      ∧ num k₁.ref < num v'.ref ∧ num v'.ref < num u.ref ∧ num b.ref < num u.ref ∧ num u.ref < num c.ref ∧ num c.ref < num x.ref
      ∧ num x.ref < num w.ref)
    (t : Line K (num w.ref + 1) hi Q) :
    Line (hlo rfl (TRef.unary k₀ v (broadcastInDim s m₀ h₀)) (fun _ => .ret (⟨⟩ : PUnit)) >>= fun _ =>
      hlo rfl (TRef.binary a v d addi) (fun _ => .ret (⟨⟩ : PUnit)) >>= fun _ =>
      hlo rfl (TRef.unary k₁ v' (broadcastInDim s m₁ h₁)) (fun _ => .ret (⟨⟩ : PUnit)) >>= fun _ =>
      hlo rfl (TRef.binary b v' u addi) (fun _ => .ret (⟨⟩ : PUnit)) >>= fun _ =>
      hlo rfl (TRef.nullary c (constantI sc 32 (BitVec.ofNat 32 e))) (fun _ => .ret (⟨⟩ : PUnit)) >>= fun _ =>
      hlo rfl (TRef.unary c x (broadcastInDim s ![] h₂)) (fun _ => .ret (⟨⟩ : PUnit)) >>= fun _ =>
      hlo rfl (TRef.binary u x w addi) (fun _ => .ret (⟨⟩ : PUnit)) >>= fun _ => K) lo hi
      fun M => (read d M, read w M) = injV (broadcastInDim s m₀ h₀ (read k₀ M)) (broadcastInDim s m₁ h₁ (read k₁ M)) e
        (read a M, read b M) ∧ Q M := by
  refine Line.mono (Line.cons (Step.unary _ _ _ ?_ ?_) <| Line.cons (Step.binary _ _ _ _ ?_ ?_ ?_) <|
    Line.cons (Step.unary _ _ _ ?_ ?_) <| Line.cons (Step.binary _ _ _ _ ?_ ?_ ?_) <| Line.cons (Step.nullary _ _ ?_) <|
    Line.cons (Step.unary _ _ _ ?_ ?_) <| Line.cons (Step.binary _ _ _ _ ?_ ?_ ?_) t) ?_
  case refine_17 =>
    rintro M ⟨e1, e2, e3, e4, e5, e6, e7, hQ⟩
    refine ⟨?_, hQ⟩
    rw [e7, e6, e5, e4, e3, e2, e1]
    rfl
  all_goals omega

end Cert.Line
end
-- ==== Proof.RefThreefry.lean ====
/- What the reference program's three threefry functions leave in their result buffers. -/
module

public import proofs.«01_k».proof.Proof.Round
public import Idealize.ShloMosaic.PureOps.Ideal
public import proofs.«01_k».proof.Proof.Gen.ReferenceIdeal

@[expose] public section

set_option maxRecDepth 16384

noncomputable section

namespace Cert.ReferenceIdeal

open Idealize.ShloMosaic Idealize.ShloMosaic.StableHlo Cert.Line Cert.Threefry Facts₀ Facts

/-- The block function once for each column, under a key that is the same for all. -/
theorem threefry_line (a0 a1 a2 a3 φ) (e0 : a0 = main_call0.v1) (e1 : a1 = main_call0.v3) (e2 : a2 = main_call0.v10) (e3 : a3 = main_call0.v9) (eφ : φ = main_call0.call0) :
    Line (fn_threefry2x32.body (F := Ideal) a0 a1 a2 a3 φ) 24 246 fun M => (read φ.v171 M, read φ.v175 M)
      = blockV (broadcastInDim S64 ![] bcast_S_S64 (read a0 M)) (broadcastInDim S64 ![] bcast_S_S64 (read a1 M))
          (broadcastInDim S64 ![] bcast_S_S64 (xori (xori (read a0 M) (read a1 M)) (constantI S_ 32 466688986#32)))
          ((read a2 M), (read a3 M)) := by
  refine Line.mono (P := ?Q) ?h ?p
  case h =>
    unfold fn_threefry2x32.body fn_threefry2x32.body_part0 fn_threefry2x32.body_part1 fn_threefry2x32.body_part2 fn_threefry2x32.body_part3
    simp only [bind_assoc]
    repeat' (with_reducible first
      | refine Line.round (Q := ?_) _ _ _ _ _ _ _ _ _ _ _ _ _ _ _ ?_ ?_
      | refine Line.inj (Q := ?_) _ _ _ _ _ _ _ _ _ _ _ _ _ _ _ _ _ ?_ ?_
      | refine Line.inj₀ (Q := ?_) _ _ _ _ _ _ _ _ _ _ _ _ ?_ ?_
      | refine Line.cons (Q := ?_) (Step.nullary _ _ ?_) ?_
      | refine Line.cons (Q := ?_) (Step.unary _ _ _ ?_ ?_) ?_
      | refine Line.cons (Q := ?_) (Step.binary _ _ _ _ ?_ ?_ ?_) ?_
      | refine Line.nil ?_)
    all_goals
      subst e0 e1 e2 e3 eφ
      decide +kernel
  case p =>
    intro M h
    simp only [h, blockV]

/-- The block function once for each column and each of two words, under each column's key. -/
theorem threefry_line_1 (a0 a1 a2 a3 φ) (e0 : a0 = main_call1.call0.v13) (e1 : a1 = main_call1.call0.v14) (e2 : a2 = main_call1.call0.v11) (e3 : a3 = main_call1.call0.v12) (eφ : φ = main_call1.call0.call0) :
    Line (fn_threefry2x32_1.body (F := Ideal) a0 a1 a2 a3 φ) 267 492 fun M => (read φ.v174 M, read φ.v178 M)
      = blockV (broadcastInDim S64x2 ![0, 1] bcast_S64x1_S64x2_0_1 (read a0 M)) (broadcastInDim S64x2 ![0, 1] bcast_S64x1_S64x2_0_1 (read a1 M))
          (broadcastInDim S64x2 ![0, 1] bcast_S64x1_S64x2_0_1 (xori (xori (read a0 M) (read a1 M)) (constantI S64x1 32 466688986#32)))
          (broadcastInDim S64x2 ![0, 1] bcast_S1x2_S64x2_0_1 (read a2 M), broadcastInDim S64x2 ![0, 1] bcast_S1x2_S64x2_0_1 (read a3 M)) := by
  refine Line.mono (P := ?Q) ?h ?p
  case h =>
    unfold fn_threefry2x32_1.body fn_threefry2x32_1.body_part0 fn_threefry2x32_1.body_part1 fn_threefry2x32_1.body_part2 fn_threefry2x32_1.body_part3
    simp only [bind_assoc]
    repeat' (with_reducible first
      | refine Line.round (Q := ?_) _ _ _ _ _ _ _ _ _ _ _ _ _ _ _ ?_ ?_
      | refine Line.inj (Q := ?_) _ _ _ _ _ _ _ _ _ _ _ _ _ _ _ _ _ ?_ ?_
      | refine Line.cons (Q := ?_) (Step.nullary _ _ ?_) ?_
      | refine Line.cons (Q := ?_) (Step.unary _ _ _ ?_ ?_) ?_
      | refine Line.cons (Q := ?_) (Step.binary _ _ _ _ ?_ ?_ ?_) ?_
      | refine Line.nil ?_)
    all_goals
      subst e0 e1 e2 e3 eφ
      decide +kernel
  case p =>
    intro M h
    simp only [h, blockV]
    rfl

/-- The block function once for each column and each row, under each column's key. -/
theorem threefry_line_2 (a0 a1 a2 a3 φ) (e0 : a0 = main_call1.v18) (e1 : a1 = main_call1.v19) (e2 : a2 = main_call1.v16) (e3 : a3 = main_call1.v17) (eφ : φ = main_call1.call1) :
    Line (fn_threefry2x32_2.body (F := Ideal) a0 a1 a2 a3 φ) 516 741 fun M => (read φ.v174 M, read φ.v178 M)
      = blockV (broadcastInDim S64x1024 ![0, 1] bcast_S64x1_S64x1024_0_1 (read a0 M)) (broadcastInDim S64x1024 ![0, 1] bcast_S64x1_S64x1024_0_1 (read a1 M))
          (broadcastInDim S64x1024 ![0, 1] bcast_S64x1_S64x1024_0_1 (xori (xori (read a0 M) (read a1 M)) (constantI S64x1 32 466688986#32)))
          (broadcastInDim S64x1024 ![0, 1] bcast_S1x1024_S64x1024_0_1 (read a2 M), broadcastInDim S64x1024 ![0, 1] bcast_S1x1024_S64x1024_0_1 (read a3 M)) := by
  refine Line.mono (P := ?Q) ?h ?p
  case h =>
    unfold fn_threefry2x32_2.body fn_threefry2x32_2.body_part0 fn_threefry2x32_2.body_part1 fn_threefry2x32_2.body_part2 fn_threefry2x32_2.body_part3
    simp only [bind_assoc]
    repeat' (with_reducible first
      | refine Line.round (Q := ?_) _ _ _ _ _ _ _ _ _ _ _ _ _ _ _ ?_ ?_
      | refine Line.inj (Q := ?_) _ _ _ _ _ _ _ _ _ _ _ _ _ _ _ _ _ ?_ ?_
      | refine Line.cons (Q := ?_) (Step.nullary _ _ ?_) ?_
      | refine Line.cons (Q := ?_) (Step.unary _ _ _ ?_ ?_) ?_
      | refine Line.cons (Q := ?_) (Step.binary _ _ _ _ ?_ ?_ ?_) ?_
      | refine Line.nil ?_)
    all_goals
      subst e0 e1 e2 e3 eφ
      decide +kernel
  case p =>
    intro M h
    simp only [h, blockV]
    rfl

end Cert.ReferenceIdeal
end
-- ==== Proof.RefSplit.lean ====
/- The reference program's key arithmetic: one key for each column, its second half, and the words each column is
   shuffled by. -/
module

public import proofs.«01_k».proof.Proof.RefThreefry
public import Idealize.ShloMosaic.Lib.Pointwise

@[expose] public section

set_option maxRecDepth 16384

noncomputable section

namespace Cert.ReferenceIdeal

open Idealize.ShloMosaic Idealize.ShloMosaic.StableHlo Cert.Line Cert.Threefry Facts₀ Facts

/-- The keys of the columns. -/
theorem split_line (x : TRef sig ⟨S2, .i32⟩) (φ) (ex : x = .of main_v6) (eφ : φ = main_call0) :
    Line (fn_threefry_split.body (F := Ideal) x φ) 11 249 fun M => ∀ b : Fin 64,
      (read φ.v14 M (ix2 b 0), read φ.v14 M (ix2 b 1))
        = tf (read x M (ix1 0), read x M (ix1 1)) (0#32, BitVec.ofNat 32 b) := by
  refine Line.mono (P := ?Q) ?h ?p
  case h =>
    unfold fn_threefry_split.body
    repeat' (with_reducible first
      | refine Line.cons (Q := ?_) (Step.nullary _ _ ?_) ?_
      | refine Line.cons (Q := ?_) (Step.unary _ _ _ ?_ ?_) ?_
      | refine Line.cons (Q := ?_) (Step.reshape _ _ _ _ ?_ ?_) ?_
      | refine Line.cons (Q := ?_) (Step.binary _ _ _ _ ?_ ?_ ?_) ?_
      | refine Line.call (Q := ?_) (threefry_line _ _ _ _ _ ?_ ?_ ?_ ?_ ?_) ?_ ?_
      | refine Line.nil ?_)
    all_goals
      subst ex eφ
      first
      | rfl
      | decide +kernel
  case p =>
    rintro M ⟨h0, h1, h2, h3, h4, h5, h6, h7, h8, h9, h10, h11, h12, hT, h13, h14, h15, -⟩ b
    have e := congrArg (at' (ix1 b)) hT
    rw [at_blockV] at e
    simp only [h15]
    pointwise [h13, h14]
    refine e.trans ?_
    have w0 : at' (ix1 b) (read φ.v10 M, read φ.v9 M) = (0#32, BitVec.ofNat 32 b) := by
      unfold at'
      simp only [h12, h11, h10, h9, h8, h7, h6, h5, h4]
      pointwise
      rw [lo_word, hi_word _ (by omega)]
    rw [w0]
    simp only [h3, h2, h1, h0]
    pointwise [tf, key2]

/-- The two keys each column's key splits into. -/
theorem split_line_0 (x : TRef sig ⟨S64x2, .i32⟩) (φ) (ex : x = .of main_v7) (eφ : φ = main_call1.call0) :
    Line (fn_threefry_split_0.body (F := Ideal) x φ) 250 495 fun M => ∀ (b : Fin 64) (k : Fin 2),
      (read φ.v18 M (ix3 b k 0), read φ.v18 M (ix3 b k 1))
        = tf (read x M (ix2 b 0), read x M (ix2 b 1)) (0#32, BitVec.ofNat 32 k) := by
  refine Line.mono (P := ?Q) ?h ?p
  case h =>
    unfold fn_threefry_split_0.body
    repeat' (with_reducible first
      | refine Line.cons (Q := ?_) (Step.nullary _ _ ?_) ?_
      | refine Line.cons (Q := ?_) (Step.unary _ _ _ ?_ ?_) ?_
      | refine Line.cons (Q := ?_) (Step.reshape _ _ _ _ ?_ ?_) ?_
      | refine Line.cons (Q := ?_) (Step.binary _ _ _ _ ?_ ?_ ?_) ?_
      | refine Line.call (Q := ?_) (threefry_line_1 _ _ _ _ _ ?_ ?_ ?_ ?_ ?_) ?_ ?_
      | refine Line.nil ?_)
    all_goals
      subst ex eφ
      first
      | rfl
      | decide +kernel
  case p =>
    rintro M ⟨h0, h1, h2, h3, h4, h5, h6, h7, h8, h9, h10, h11, h12, h13, h14, h15, h16, hT, h17, h18, h19, -⟩ b k
    have e := congrArg (at' (ix2 b k)) hT
    rw [at_blockV] at e
    simp only [h19]
    pointwise [h17, h18]
    refine e.trans ?_
    have w0 : at' (ix2 b k) (broadcastInDim S64x2 ![0, 1] bcast_S1x2_S64x2_0_1 (read φ.v11 M),
        broadcastInDim S64x2 ![0, 1] bcast_S1x2_S64x2_0_1 (read φ.v12 M)) = (0#32, BitVec.ofNat 32 k) := by
      unfold at'
      simp only [h14, h13, h12, h11, h10, h9, h8, h7, h6, h5, h4]
      pointwise
      rw [lo_word, hi_word _ (by omega)]
    rw [w0]
    simp only [h16, h15, h3, h2, h1, h0]
    pointwise [tf, key2]

/-- The columns' sort keys and the shuffled row numbers. -/
theorem shuffle_line (x : TRef sig ⟨S64x2, .i32⟩) (y : TRef sig ⟨S1024, .i32⟩) (φ) (ex : x = .of main_v7) (ey : y = .of main_v8)
    (eφ : φ = main_call1) :
    Line (fn_shuffle.body (F := Ideal) x y φ) 250 745 fun M =>
      (∀ (b : Fin 64) (t : Fin 1024), ∀ p, p = tf (tf (read x M (ix2 b 0), read x M (ix2 b 1)) (0#32, 1#32)) (0#32, BitVec.ofNat 32 t) →
        read φ.v21 M (ix2 b t) = IntOp.xori p.1 p.2)
      ∧ (∀ (b : Fin 64) (t : Fin 1024), read φ.v22 M (ix2 b t) = read y M (ix1 t))
      ∧ read φ.v23_1 M = (Host.sort2 S64x1024 1 comparator_i32_i32_d1 (read φ.v21 M) (read φ.v22 M)).2 := by
  refine Line.mono (P := ?Q) ?h ?p
  case h =>
    unfold fn_shuffle.body
    repeat' (with_reducible first
      | refine Line.cons (Q := ?_) (Step.nullary _ _ ?_) ?_
      | refine Line.cons (Q := ?_) (Step.unary _ _ _ ?_ ?_) ?_
      | refine Line.cons (Q := ?_) (Step.reshape _ _ _ _ ?_ ?_) ?_
      | refine Line.cons (Q := ?_) (Step.binary _ _ _ _ ?_ ?_ ?_) ?_
      | refine Line.call (Q := ?_) (split_line_0 _ _ ?_ ?_) ?_ ?_
      | refine Line.call (Q := ?_) (threefry_line_2 _ _ _ _ _ ?_ ?_ ?_ ?_ ?_) ?_ ?_
      | refine Line.nil ?_)
    all_goals
      subst ex ey eφ
      first
      | rfl
      | decide +kernel
  case p =>
    rintro M ⟨hS, h1, h2, h3, h4, h5, h6, h7, h8, h9, h10, h11, h12, h13, h14, h15, h16, h17, h18, h19, h20, h21, hT, h22, h23,
      h24, h25, -⟩
    refine ⟨fun b t p hp => ?_, fun b t => ?_, h25⟩
    · have e := congrArg (at' (ix2 b t)) hT
      rw [at_blockV] at e
      have w0 : at' (ix2 b t) (broadcastInDim S64x1024 ![0, 1] bcast_S1x1024_S64x1024_0_1 (read φ.v16 M),
          broadcastInDim S64x1024 ![0, 1] bcast_S1x1024_S64x1024_0_1 (read φ.v17 M)) = (0#32, BitVec.ofNat 32 t) := by
        unfold at'
        simp only [h19, h18, h17, h16, h15, h14, h13, h12, h11, h10, h9]
        pointwise
        rw [lo_word, hi_word _ (by omega)]
      rw [w0] at e
      simp only [h21, h20, h8, h7, h6, h5, h4, h3] at e
      pointwise at e
      have e' : (read φ.call1.v174 M (ix2 b t), read φ.call1.v178 M (ix2 b t))
          = tf (read φ.call0.v18 M (ix3 b 1 0), read φ.call0.v18 M (ix3 b 1 1)) (0#32, BitVec.ofNat 32 t) := e
      rw [hS b 1] at e'
      rw [hp.trans e'.symm, h22]
      pointwise
    · rw [h23]
      pointwise

end Cert.ReferenceIdeal
end
-- ==== Proof.RefTake.lean ====
/- The reference program's inverse permutation and its take along the rows. -/
module

public import proofs.«01_k».proof.Proof.Line
public import Idealize.ShloMosaic.PureOps.Ideal
public import Idealize.ShloMosaic.Lib.Pointwise
public import Idealize.ShloMosaic.Lib.ReduceAll
public import proofs.«01_k».proof.Proof.Gen.ReferenceIdeal

@[expose] public section

set_option maxRecDepth 16384

noncomputable section

namespace Cert.ReferenceIdeal

open Idealize.ShloMosaic Idealize.ShloMosaic.StableHlo Cert.Line Facts₀ Facts

/-- The rows sorted by the permutation. -/
theorem argsort_line (x : TRef sig ⟨S1024x64, .i32⟩) (φ) (ex : x = .of main_v10) (eφ : φ = main_call2) :
    Line (fn_argsort.body (F := Ideal) x φ) 746 749 fun M =>
      read φ.v1_1 M = (Host.sort2 S1024x64 0 comparator_i32_i32_d0 (read x M) (iotaInDim S1024x64 32 0)).2 := by
  refine Line.mono (P := ?Q) ?h ?p
  case h =>
    unfold fn_argsort.body
    repeat' (with_reducible first
      | refine Line.cons (Q := ?_) (Step.nullary _ _ ?_) ?_
      | refine Line.cons (Q := ?_) (Step.binary _ _ _ _ ?_ ?_ ?_) ?_
      | refine Line.nil ?_)
    all_goals
      subst ex eφ
      decide +kernel
  case p =>
    rintro M ⟨h0, -, h2, -⟩
    rw [h2, h0]

/-- The gather at an index whose row is in range. -/
theorem gather_apply {α : Type} (x : S1024x64x192.Idx → α) (idx : IVec S1024x64x1 32) (i : Fin 1024) (b : Fin 64) (c : Fin 192)
    (r : Fin 1024) (h : (idx (ix3 i b 0)).toInt = r) :
    Host.gather gather_S1024x64x192_S1024x64x1_S1024x64x192_2_0_1_1_0_2_11192 x idx (ix3 i b c) = x (ix3 r b c) := by
  unfold Host.gather
  congr 1
  funext a
  refine Fin.ext ?_
  have hs : gather_S1024x64x192_S1024x64x1_S1024x64x192_2_0_1_1_0_2_11192.siIdx (ix3 i b c) ⟨0, Nat.one_pos⟩ = ix3 i b 0 := by
    funext a
    refine Fin.ext ?_
    match a with
    | ⟨0, _⟩ => rfl
    | ⟨1, _⟩ => rfl
    | ⟨2, _⟩ => rfl
  match a with
  | ⟨0, _⟩ =>
    have e : gather_S1024x64x192_S1024x64x1_S1024x64x192_2_0_1_1_0_2_11192.start (ix3 i b c) idx 0 = r := by
      show min (idx (gather_S1024x64x192_S1024x64x1_S1024x64x192_2_0_1_1_0_2_11192.siIdx (ix3 i b c) ⟨0, Nat.one_pos⟩)).toInt.toNat 1023 = r
      rw [hs, h]
      have := r.isLt
      omega
    show gather_S1024x64x192_S1024x64x1_S1024x64x192_2_0_1_1_0_2_11192.start (ix3 i b c) idx 0 + 0 + 0 = r
    rw [e]
    rfl
  | ⟨1, _⟩ => show 0 + b.val + 0 = b.val; omega
  | ⟨2, _⟩ => show 0 + 0 + c.val = c.val; omega

/-- The rows taken at numbers in range. -/
theorem take_line (x : TRef sig ⟨S1024x64x192, .f32⟩) (y : TRef sig ⟨S1024x64x1, .i32⟩) (φ) (ex : x = .of main_arg0) (ey : y = .of main_v12)
    (eφ : φ = main_call3) :
    Line (fn_take_along_axis.body (F := Ideal) x y φ) 750 772 fun M =>
      ∀ f : Fin 1024 → Fin 64 → Fin 1024, (∀ i b, read y M (ix3 i b 0) = BitVec.ofNat 32 (f i b)) →
        ∀ i b c, read φ.v15 M (ix3 i b c) = read x M (ix3 (f i b) b c) := by
  refine Line.mono (P := ?Q) ?h ?p
  case h =>
    unfold fn_take_along_axis.body
    repeat' (with_reducible first
      | refine Line.cons (Q := ?_) (Step.nullary _ _ ?_) ?_
      | refine Line.cons (Q := ?_) (Step.unary _ _ _ ?_ ?_) ?_
      | refine Line.cons (Q := ?_) (Step.binary _ _ _ _ ?_ ?_ ?_) ?_
      | refine Line.cons (Q := ?_) (Step.ternary _ _ _ _ _ ?_ ?_ ?_ ?_) ?_
      | refine Line.nil ?_)
    all_goals
      subst ex ey eφ
      decide +kernel
  case p =>
    rintro M ⟨h0, h1, h2, h3, h4, h5, h6, h7, h8, h9, h10, h11, h12, h13, h14, h15, h16, h17, h18, h19, h20, h21, -⟩ f hf i b c
    have z : (0#32).toInt = 0 := rfl
    have z' : (1023#32).toInt = 1023 := rfl
    have ht : ∀ i b, (BitVec.ofNat 32 (f i b)).toInt = f i b := fun i b => by
      have := (f i b).isLt
      rw [BitVec.toInt_eq_toNat_of_lt] <;> rw [BitVec.toNat_ofNat] <;> omega
    have w : ∀ i b, read φ.v4 M (ix3 i b 0) = BitVec.ofNat 32 (f i b) := fun i b => by
      rw [h6, h2, h1, h0]
      pointwise [hf]
      show Scalar.select (BitVec.ofBool (decide ((BitVec.ofNat 32 (f i b)).toInt < (0#32).toInt))) _ _ = _
      rw [ht, z, decide_eq_false (by omega)]
      rfl
    have v : ∀ i b, read φ.v10 M (ix3 i b 0) = 1#1 := fun i b => by
      rw [h14, h10, h13, h12, h11, h9, h8, h7]
      pointwise [w]
      show IntOp.andi (BitVec.ofBool (decide ((0#32).toInt ≤ (BitVec.ofNat 32 (f i b)).toInt)))
        (BitVec.ofBool (decide ((BitVec.ofNat 32 (f i b)).toInt ≤ (1023#32).toInt))) = _
      have := (f i b).isLt
      rw [ht, z, z', decide_eq_true (by omega), decide_eq_true (by omega)]
      rfl
    have u : read φ.v11 M (ix2 i b) = 1#1 := by
      rw [h16, h15]
      refine Host.reduce_andi_one _ _ _ _ _ rfl fun j => ?_
      idx_vars j
      have : j2 = 0 := Subsingleton.elim _ _
      rw [this]
      exact v _ _
    rw [h21]
    pointwise [h18, h17]
    rw [u, gather_apply _ _ _ _ _ _ ((congrArg _ (w i b)).trans (ht i b))]
    rfl

end Cert.ReferenceIdeal
end
-- ==== Proof.RefMain.lean ====
/- The reference program whole: what its run leaves. -/
module

public import proofs.«01_k».proof.Proof.RefSplit
public import proofs.«01_k».proof.Proof.RefTake
public import proofs.«01_k».proof.Proof.Check

@[expose] public section

set_option maxRecDepth 16384

noncomputable section

namespace Cert.ReferenceIdeal

open Idealize.ShloMosaic Idealize.ShloMosaic.StableHlo Cert.Line Cert.Threefry Facts₀ Facts

/-- What the reference's stretch leaves: the columns' sorted row numbers, their transpose, its inverse sort, and the rows taken. -/
structure Left (M : Valuation τ sig (Elt Ideal)) : Prop where
  sorted : ∃ k : IVec S64x1024 32, (∀ (b : Fin 64) (t : Fin 1024), ∀ p, p = tf (Check.subkey b) (0#32, BitVec.ofNat 32 t) → k (ix2 b t) = IntOp.xori p.1 p.2) ∧
    (M (Proc.devRef .tc main_v10) : IVec S1024x64 32) = transpose S1024x64 [1, 0]
      (Host.sort2 S64x1024 1 comparator_i32_i32_d1 k (fun j => BitVec.ofNat 32 (j 1))).2 transposes_S64x1024_S1024x64_1_0
  argsort : (M (Proc.devRef .tc main_v11) : IVec S1024x64 32) = (Host.sort2 S1024x64 0 comparator_i32_i32_d0
      (M (Proc.devRef .tc main_v10) : IVec S1024x64 32) (iotaInDim S1024x64 32 0)).2
  take : ∀ f : Fin 1024 → Fin 64 → Fin 1024, (∀ i b, (M (Proc.devRef .tc main_v10) : IVec S1024x64 32) (ix2 i b) = BitVec.ofNat 32 (f i b)) →
    ∀ (i : Fin 256) (b : Fin 64) (c : Fin 192), (M (Proc.devRef .tc main_v14) : FVec Ideal S256x64x192 .f32) (ix3 i b c)
      = (M (Proc.devRef .tc main_arg0) : FVec Ideal S1024x64x192 .f32) (ix3 (f (Fin.castLE (by decide) i) b) b c)

theorem main_line (d : Dev nD) : Line (main (F := Ideal) d) 1 773 Left := by
  refine Line.mono (P := ?Q) ?h ?p
  case h =>
    unfold main
    repeat' (with_reducible first
      | refine Line.cons (Q := ?_) (Step.nullary' _ _ ?_ ?_) ?_
      | refine Line.cons (Q := ?_) (Step.unary' _ _ _ ?_ ?_ ?_ ?_) ?_
      | refine Line.cons (Q := ?_) (Step.binary' _ _ _ _ ?_ ?_ ?_ ?_ ?_ ?_) ?_
      | refine Line.call (Q := ?_) (split_line _ _ ?_ ?_) ?_ ?_
      | refine Line.call (Q := ?_) (shuffle_line _ _ _ ?_ ?_ ?_) ?_ ?_
      | refine Line.call (Q := ?_) (argsort_line _ _ ?_ ?_) ?_ ?_
      | refine Line.call (Q := ?_) (take_line _ _ _ ?_ ?_ ?_) ?_ ?_
      | refine Line.nil ?_)
    all_goals
      first
      | rfl
      | decide +kernel
  case p =>
    rintro M ⟨h0, h1, h2, h3, h4, h5, h6, h7, h8, h9, hs, h10, hp, h11, ha, h12, ht, h13, -⟩
    have key : (read (.of main_v6) M (ix1 0), read (.of main_v6) M (ix1 1)) = (0#32, 42#32) := by
      show ((M (Proc.devRef .tc main_v6) : IVec S2 32) (ix1 0), (M (Proc.devRef .tc main_v6) : IVec S2 32) (ix1 1)) = _
      rw [h9, h8, h7, h6, h5, h4, h3, h2, h1, h0]
      pointwise
      decide
    refine ⟨⟨read main_call1.v21 M, fun b t p e => hp.1 b t p ?_, ?_⟩, ?_, fun f hf i b c => ?_⟩
    · rw [e, Check.subkey]
      have e' := hs b
      rw [key] at e'
      rw [← e']
    · rw [h11]
      refine congrArg (transpose S1024x64 [1, 0] · transposes_S64x1024_S1024x64_1_0) (hp.2.2.trans ?_)
      refine congrArg (fun z => (Host.sort2 S64x1024 1 comparator_i32_i32_d1 (read main_call1.v21 M) z).2) (funext fun j => ?_)
      idx_vars j
      refine (hp.2.1 _ _).trans ?_
      show (M (Proc.devRef .tc main_v8) : IVec S1024 32) _ = _
      rw [h10]
      pointwise
    · exact ha
    · rw [h13]
      pointwise
      refine (ht f (fun i b => ?_) _ b c)
      show (M (Proc.devRef .tc main_v12) : IVec S1024x64x1 32) _ = _
      rw [h12, ← hf i b]
      pointwise

end Cert.ReferenceIdeal
end
end
-- ==== Proof.Sort.lean ====
/- A sort by strictly ordered keys is the one arrangement in which the keys increase. -/
module

public import Idealize.ShloMosaic.Lib.SortFacts
public import Mathlib.Order.WellFounded
public import Mathlib.Order.Fin.Basic
public import Mathlib.Data.Fintype.Card

@[expose] public section

namespace Cert.Sort

open Idealize.ShloMosaic

/-- If the keys increase along `f`, sorting by the keys puts `f i` at place `i`. -/
theorem sortedFrom_eq {n : Nat} (key : Fin n → Nat) (f : Fin n → Fin n) (hf : ∀ i j, i < j → key (f i) < key (f j))
    (R : Fin n → Fin n → Bool) (hR : ∀ k k', R k k' = decide (key k < key k')) : sortedFrom R = f := by
  have hfm : StrictMono (key ∘ f) := fun i j h => hf i j h
  have hfs : Function.Surjective f := Finite.injective_iff_surjective.mp (Function.Injective.of_comp hfm.injective)
  have hk : Function.Injective key := by
    intro a b h
    obtain ⟨i, rfl⟩ := hfs a
    obtain ⟨j, rfl⟩ := hfs b
    exact congrArg f (hfm.injective h)
  have hg : StrictMono (key ∘ sortedFrom R) := by
    intro i j h
    have h1 := sortedFrom_noInversion R R (fun a b => by simp only [hR, decide_eq_true_eq, decide_eq_false_iff_not]; omega)
      (fun _ _ => id) (fun a b c => by simp only [hR, decide_eq_false_iff_not]; omega) i j h
    rw [hR, decide_eq_false_iff_not] at h1
    have h2 : key (sortedFrom R i) ≠ key (sortedFrom R j) := fun e => h.ne (sortedFrom_injective R (hk e))
    show key (sortedFrom R i) < key (sortedFrom R j)
    omega
  have e : key ∘ sortedFrom R = key ∘ f := by
    refine (StrictMono.range_inj hg hfm).mp ?_
    rw [(sortedFrom_surjective R).range_comp, hfs.range_comp]
  funext i
  exact hk (congrFun e i)

end Cert.Sort
end
-- ==== Proof.RefValues.lean ====
/- The values the reference leaves, by the checked columns, and its run. -/
module

public import proofs.«01_k».proof.Proof.RefMain
public import proofs.«01_k».proof.Proof.Columns.Facts
public import proofs.«01_k».proof.Proof.Sort

@[expose] public section

set_option maxRecDepth 16384

noncomputable section

namespace Cert.ReferenceIdeal

open Idealize.ShloMosaic Idealize.ShloMosaic.StableHlo Cert.Line Cert.Threefry Cert.Columns Cert.Check Facts₀ Facts

variable {M : Valuation τ sig (Elt Ideal)}

/-- The second array of a sort of two, where the arrangement is known. -/
theorem sort2_snd {s : Shape} {d : Nat} (hd : d < s.rank) {α β : Type} (cmp : α × β → α × β → BitVec 1) (x : s.Idx → α) (y : s.Idx → β)
    (j : s.Idx) (g : Fin (s.size ⟨d, hd⟩) → Fin (s.size ⟨d, hd⟩))
    (h : sortedFrom (fun k k' => cmp (x (j.along ⟨d, hd⟩ k), y (j.along ⟨d, hd⟩ k)) (x (j.along ⟨d, hd⟩ k'), y (j.along ⟨d, hd⟩ k')) == 1#1) = g) :
    (Host.sort2 s d cmp x y).2 j = y (j.along ⟨d, hd⟩ (g (j ⟨d, hd⟩))) := by
  subst h
  unfold Host.sort2
  rw [dif_pos hd]

theorem axis_1 : 1 < S64x1024.rank := by decide

theorem axis_0 : 0 < S1024x64.rank := by decide

theorem along_1 (b : Fin 64) (t v : Fin 1024) : (ix2 b t : S64x1024.Idx).along ⟨1, axis_1⟩ v = ix2 b v := by
  funext a
  match a with
  | ⟨0, _⟩ => rfl
  | ⟨1, _⟩ => rfl

theorem along_0 (v : Fin 1024) (b : Fin 64) (w : Fin 1024) : (ix2 v b : S1024x64.Idx).along ⟨0, axis_0⟩ w = ix2 w b := by
  funext a
  match a with
  | ⟨0, _⟩ => rfl
  | ⟨1, _⟩ => rfl

theorem before_word (p : Prop) [Decidable p] : (BitVec.ofBool (decide p) == 1#1) = decide p := by
  by_cases h : p <;> simp [h]

/-- The row numbers of a column sorted by its keys are its shuffled rows. -/
theorem sorted_at (k : IVec S64x1024 32)
    (hk : ∀ (b : Fin 64) (t : Fin 1024), ∀ p, p = tf (subkey b) (0#32, BitVec.ofNat 32 t) → k (ix2 b t) = IntOp.xori p.1 p.2)
    (b : Fin 64) (t : Fin 1024) :
    (Host.sort2 S64x1024 1 comparator_i32_i32_d1 k (fun j => BitVec.ofNat 32 (j 1))).2 (ix2 b t) = BitVec.ofNat 32 (row b t) := by
  rw [sort2_snd axis_1 _ _ _ _ (row b) ?h]
  case h =>
    refine Sort.sortedFrom_eq (fun v : Fin 1024 => sortKey (subkey b) v) (row b) (row_increasing b) _ fun v v' => ?_
    rw [along_1, along_1, hk b v _ rfl, hk b v' _ rfl]
    exact before_word _
  exact congrArg (fun i : S64x1024.Idx => BitVec.ofNat 32 (i 1)) (along_1 b t (row b t))

theorem word_toInt (v : Fin 1024) : (BitVec.ofNat 32 v.val).toInt = v.val := by
  have := v.isLt
  rw [BitVec.toInt_eq_toNat_of_lt (by rw [BitVec.toNat_ofNat]; omega), BitVec.toNat_ofNat, Nat.mod_eq_of_lt (by omega)]

/-- Sorting the shuffled rows by their numbers lists the places they came from. -/
theorem argsorted_at (k : IVec S1024x64 32) (hk : ∀ t b, k (ix2 t b) = BitVec.ofNat 32 (row b t)) (v : Fin 1024) (b : Fin 64) :
    (Host.sort2 S1024x64 0 comparator_i32_i32_d0 k (iotaInDim S1024x64 32 0)).2 (ix2 v b) = BitVec.ofNat 32 (spot b v) := by
  rw [sort2_snd axis_0 _ _ _ _ (spot b) ?h]
  case h =>
    refine Sort.sortedFrom_eq (fun t : Fin 1024 => (row b t).val) (spot b) (fun i j h => by rw [row_spot, row_spot]; exact h) _ fun w w' => ?_
    rw [along_0, along_0, hk, hk]
    refine (before_word ((BitVec.ofNat 32 (row b w).val).toInt < (BitVec.ofNat 32 (row b w').val).toInt)).trans ?_
    rw [word_toInt, word_toInt]
    exact decide_eq_decide.mpr Int.ofNat_lt
  exact congrArg (fun i : S1024x64.Idx => BitVec.ofNat 32 (i 0)) (along_0 v b (spot b v))

theorem Left.fwd (h : Left M) (t : Fin 1024) (b : Fin 64) :
    (M (Proc.devRef .tc main_v10) : IVec S1024x64 32) (ix2 t b) = BitVec.ofNat 32 (row b t) := by
  obtain ⟨k, hk, e⟩ := h.sorted
  rw [e, ← sorted_at k hk b t]
  pointwise

theorem Left.bwd (h : Left M) (v : Fin 1024) (b : Fin 64) :
    (M (Proc.devRef .tc main_v11) : IVec S1024x64 32) (ix2 v b) = BitVec.ofNat 32 (spot b v) := by
  rw [h.argsort]
  exact argsorted_at _ h.fwd v b

theorem Left.rows (h : Left M) (i : Fin 256) (b : Fin 64) (c : Fin 192) :
    (M (Proc.devRef .tc main_v14) : FVec Ideal S256x64x192 .f32) (ix3 i b c)
      = (M (Proc.devRef .tc main_arg0) : FVec Ideal S1024x64x192 .f32) (ix3 (row b (Fin.castLE (by decide) i)) b c) :=
  h.take (fun t b => row b t) h.fwd i b c

/-- The reference's run: its three results, its argument unchanged, its counters at zero. -/
theorem ran (m : (ℓ : Loc nD τ sig) → Buf (Elt Ideal) ℓ) (ρ : Dev nD → PrngReg) :
    θ_run defs (onTc (main (F := Ideal))) ⟨m, fun _ => 0, ρ⟩ fun r =>
      (∀ c : Dev nD, (∀ i b k, (r.2.mem (c.tc.loc main_v14) : FVec Ideal S256x64x192 .f32) (ix3 i b k)
            = (m (c.tc.loc main_arg0) : FVec Ideal S1024x64x192 .f32) (ix3 (row b (Fin.castLE (by decide) i)) b k))
          ∧ (∀ t b, (r.2.mem (c.tc.loc main_v10) : IVec S1024x64 32) (ix2 t b) = BitVec.ofNat 32 (row b t))
          ∧ (∀ v b, (r.2.mem (c.tc.loc main_v11) : IVec S1024x64 32) (ix2 v b) = BitVec.ofNat 32 (spot b v))
          ∧ r.2.mem (c.tc.loc main_arg0) = m (c.tc.loc main_arg0)) ∧ r.2.sem = fun _ => 0 := by
  refine θ_run_mono (Line.run defs main main_line (by decide) (by decide) m ρ) fun r hr => ⟨fun c => ?_, sem_eq_zero_of_no_sems (by decide) r.2⟩
  obtain ⟨M, hM, hl, hb⟩ := hr c
  have ha : r.2.mem (c.tc.loc main_arg0) = m (c.tc.loc main_arg0) := by
    rw [hb main_arg0, hl main_arg0 (by decide)]
  refine ⟨fun i b k => ?_, fun t b => ?_, fun v b => ?_, ha⟩
  · rw [hb main_v14, hM.rows, ← hb main_arg0, ha]
  · rw [hb main_v10, hM.fwd]
  · rw [hb main_v11, hM.bwd]

end Cert.ReferenceIdeal
end
end
-- ==== Proof.Agree.lean ====
/- Both runs leave the same three results. -/
module

public import proofs.«01_k».proof.Defs
public import proofs.«01_k».proof.Proof.KernelValues
public import proofs.«01_k».proof.Proof.RefValues

@[expose] public section

noncomputable section

namespace Cert.Agree

open Idealize.ShloMosaic Idealize.ShloMosaic.TcCoe Idealize.SL.Sem Cert.Columns

/-- The rows taken, column by column. -/
def rows (x : (⟨3, ![1024, 64, 192]⟩ : Shape).Idx → EReal) : (⟨3, ![256, 64, 192]⟩ : Shape).Idx → EReal :=
  fun z => x (ix3 (row (z 1) (Fin.castLE (by decide) (z 0))) (z 1) (z 2))

/-- The order of each column. -/
def order : (⟨2, ![1024, 64]⟩ : Shape).Idx → BitVec 32 := fun z => BitVec.ofNat 32 (row (z 1) (z 0))

/-- The inverse of each column's order. -/
def back : (⟨2, ![1024, 64]⟩ : Shape).Idx → BitVec 32 := fun z => BitVec.ofNat 32 (spot (z 1) (z 0))

theorem rows_of {x : (⟨3, ![1024, 64, 192]⟩ : Shape).Idx → EReal} {y : (⟨3, ![256, 64, 192]⟩ : Shape).Idx → EReal}
    (h : ∀ i b k, y (ix3 i b k) = x (ix3 (row b (Fin.castLE (by decide) i)) b k)) : y = rows x := by
  funext z
  idx_vars z
  exact h _ _ _

theorem order_of {y : (⟨2, ![1024, 64]⟩ : Shape).Idx → BitVec 32} (h : ∀ t b, y (ix2 t b) = BitVec.ofNat 32 (row b t)) : y = order := by
  funext z
  idx_vars z
  exact h _ _

theorem back_of {y : (⟨2, ![1024, 64]⟩ : Shape).Idx → BitVec 32} (h : ∀ v b, y (ix2 v b) = BitVec.ofNat 32 (spot b v)) : y = back := by
  funext z
  idx_vars z
  exact h _ _

theorem agree : letI := Cert.KernelIdeal.Gen.facts; letI := Cert.ReferenceIdeal.Gen.facts
    Cert.algebraic_KernelIdeal_ReferenceIdeal := by
  intro m g m' g' _ hm
  refine ⟨fun c => rows (m (c.tc.loc Cert.KernelIdeal.main_arg0)), fun _ => order, fun _ => back, ?_, ?_⟩
  · refine (θ_run _ _ _).mono ?_ (Cert.KernelIdeal.run_values m g)
    intro r h c
    obtain ⟨h0, h1, h2, ha⟩ := h.1 c
    exact ⟨rows_of h0, order_of h1, back_of h2, ha⟩
  · refine (θ_run _ _ _).mono ?_ (Cert.ReferenceIdeal.ran m' g')
    intro r h c
    obtain ⟨h0, h1, h2, ha⟩ := h.1 c
    exact ⟨(rows_of h0).trans (congrArg rows (hm c)), order_of h1, back_of h2, ha⟩

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨Cert.Same.frame, fun m g _ => Cert.KernelIdeal.framed m g, fun m g _ => ?_, trivial, Cert.Agree.agree⟩
  exact (θ_run _ _ _).mono (fun _ h => ⟨fun c => (h.1 c).2.2.2, h.2⟩) (Cert.ReferenceIdeal.ran m g)⟩

end Cert.Proof

end
